-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1)
      ∧ r.2.mem ((c.tc : Thread Cert.ClippedIdeal.nD Cert.ClippedIdeal.τ).loc Cert.ClippedIdeal.main_arg2) = m ((c.tc : Thread Cert.ClippedIdeal.nD Cert.ClippedIdeal.τ).loc Cert.ClippedIdeal.main_arg2)
      ∧ r.2.mem ((c.tc : Thread Cert.ClippedIdeal.nD Cert.ClippedIdeal.τ).loc Cert.ClippedIdeal.main_arg3) = m ((c.tc : Thread Cert.ClippedIdeal.nD Cert.ClippedIdeal.τ).loc Cert.ClippedIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_ClippedIdeal_on_clip_idle [hKernelIdeal : Cert.KernelIdeal.Facts] [hClippedIdeal : Cert.ClippedIdeal.Facts] [hOn_clip_idle : Cert.On_clip_idle.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ClippedIdeal.nD).tc : Thread Cert.ClippedIdeal.nD Cert.ClippedIdeal.τ).loc Cert.ClippedIdeal.main_arg1))
      ∧ m ((c.tc : Thread Cert.KernelIdeal.nD Cert.KernelIdeal.τ).loc Cert.KernelIdeal.main_arg2) = m' (((0 : Dev Cert.ClippedIdeal.nD).tc : Thread Cert.ClippedIdeal.nD Cert.ClippedIdeal.τ).loc Cert.ClippedIdeal.main_arg2)
      ∧ m ((c.tc : Thread Cert.KernelIdeal.nD Cert.KernelIdeal.τ).loc Cert.KernelIdeal.main_arg3) = m' (((0 : Dev Cert.ClippedIdeal.nD).tc : Thread Cert.ClippedIdeal.nD Cert.ClippedIdeal.τ).loc Cert.ClippedIdeal.main_arg3)) →
    ∃ (v0 : Buf (Elt Ideal) (((0 : Dev Cert.ClippedIdeal.nD).tc : Thread Cert.ClippedIdeal.nD Cert.ClippedIdeal.τ).loc Cert.ClippedIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 8192]⟩ : Shape).Idx, (Layout.block ⟨2, ![1024, 8192]⟩ ⟨2, ![4096, 8192]⟩ 0 4 c ((Cert.On_clip_idle.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)) (m' (((0 : Dev Cert.ClippedIdeal.nD).tc : Thread Cert.ClippedIdeal.nD Cert.ClippedIdeal.τ).loc Cert.ClippedIdeal.main_arg2)) (m' (((0 : Dev Cert.ClippedIdeal.nD).tc : Thread Cert.ClippedIdeal.nD Cert.ClippedIdeal.τ).loc Cert.ClippedIdeal.main_arg3)))) : (⟨2, ![1024, 8192]⟩ : Shape).Idx → _) i = 1#1 → r.2.mem ((c.tc : Thread Cert.KernelIdeal.nD Cert.KernelIdeal.τ).loc Cert.KernelIdeal.main_v1) i = (Layout.block ⟨2, ![1024, 8192]⟩ ⟨2, ![4096, 8192]⟩ 0 4 c v0 : (⟨2, ![1024, 8192]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![4096, 8192]⟩ : Shape).Idx, (Cert.On_clip_idle.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)) (m' (((0 : Dev Cert.ClippedIdeal.nD).tc : Thread Cert.ClippedIdeal.nD Cert.ClippedIdeal.τ).loc Cert.ClippedIdeal.main_arg2)) (m' (((0 : Dev Cert.ClippedIdeal.nD).tc : Thread Cert.ClippedIdeal.nD Cert.ClippedIdeal.τ).loc Cert.ClippedIdeal.main_arg3))) i = 1#1 → r.2.mem (((0 : Dev Cert.ClippedIdeal.nD).tc : Thread Cert.ClippedIdeal.nD Cert.ClippedIdeal.τ).loc Cert.ClippedIdeal.main_v11) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1)
          ∧ r.2.mem (((0 : Dev Cert.ClippedIdeal.nD).tc : Thread Cert.ClippedIdeal.nD Cert.ClippedIdeal.τ).loc Cert.ClippedIdeal.main_arg2) = m' (((0 : Dev Cert.ClippedIdeal.nD).tc : Thread Cert.ClippedIdeal.nD Cert.ClippedIdeal.τ).loc Cert.ClippedIdeal.main_arg2)
          ∧ r.2.mem (((0 : Dev Cert.ClippedIdeal.nD).tc : Thread Cert.ClippedIdeal.nD Cert.ClippedIdeal.τ).loc Cert.ClippedIdeal.main_arg3) = m' (((0 : Dev Cert.ClippedIdeal.nD).tc : Thread Cert.ClippedIdeal.nD Cert.ClippedIdeal.τ).loc Cert.ClippedIdeal.main_arg3))

def Claim : Prop :=
  ∃ (hKernel : Cert.Kernel.Facts) (hKernelIdeal : Cert.KernelIdeal.Facts) (hReferenceIdeal : Cert.ReferenceIdeal.Facts) (hClippedIdeal : Cert.ClippedIdeal.Facts) (hOn_clip_idle : Cert.On_clip_idle.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_clip_idle (hKernelIdeal := hKernelIdeal) (hClippedIdeal := hClippedIdeal) (hOn_clip_idle := hOn_clip_idle)
-- ==== On_clip_idle.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S4096x8192_0_1 : S1x1.BroadcastsInDim S4096x8192 (![0, 1] : Fin 2 → Fin S4096x8192.rank)
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) (main_arg2 : FVec F S1 .f32) (main_arg3 : FVec F S1 .f32) : IVec S4096x8192 1 :=
  let main_v0 : FVec F S4096x8192 .f32 := (fun l r => Host.dotGeneral dot_S4096x4096_S4096x8192_S4096x8192_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S4096x8192 .f32 := broadcastInDim S4096x8192 ![0, 1] bcast_S1x1_S4096x8192_0_1 main_v2
  let main_v4 : FVec F S4096x8192 .f32 := mulf main_v0 main_v3
  let main_cst : FVec F S_ .f32 := constant S_ .f32 0xC2700000#32
  let main_v5 : FVec F S4096x8192 .f32 := broadcastInDim S4096x8192 ![] bcast_S_S4096x8192 main_cst
  let main_v6 : IVec S4096x8192 1 := cmpf .oge main_v4 main_v5
  let main_cst_0 : FVec F S_ .f32 := constant S_ .f32 0x42700000#32
  let main_v7 : FVec F S4096x8192 .f32 := broadcastInDim S4096x8192 ![] bcast_S_S4096x8192 main_cst_0
  let main_v8 : IVec S4096x8192 1 := cmpf .ole main_v4 main_v7
  let main_v9 : IVec S4096x8192 1 := andi main_v6 main_v8
  main_v9
-- ==== Kernel.lean ====
abbrev S4096x1024 : Shape := ⟨2, ![4096, 1024]⟩
abbrev S1024x8192 : Shape := ⟨2, ![1024, 8192]⟩
abbrev S1 : Shape := ⟨1, ![1]⟩
abbrev S2x2x8x1024x512 : Shape := ⟨5, ![2, 2, 8, 1024, 512]⟩
abbrev S1024x1024 : Shape := ⟨2, ![1024, 1024]⟩
abbrev S2x1024x512 : Shape := ⟨3, ![2, 1024, 512]⟩
abbrev S2x2x8 : Shape := ⟨3, ![2, 2, 8]⟩
abbrev S2x8 : Shape := ⟨2, ![2, 8]⟩
abbrev S2 : Shape := ⟨1, ![2]⟩
abbrev S_ : Shape := ⟨0, ![]⟩
abbrev S1x1024x512 : Shape := ⟨3, ![1, 1024, 512]⟩
abbrev S1024x512 : Shape := ⟨2, ![1024, 512]⟩
abbrev S1x1x1x1024x512 : Shape := ⟨5, ![1, 1, 1, 1024, 512]⟩
abbrev S1x1x1 : Shape := ⟨3, ![1, 1, 1]⟩
abbrev S1x1 : Shape := ⟨2, ![1, 1]⟩

abbrev nBuf : Space → Nat
  | .hbm => 5
  | .vmem => 6
  | .smem => 2
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S1, .f32⟩
  | .hbm, ⟨3, _⟩ => ⟨S1, .f32⟩
  | .hbm, ⟨4, _⟩ => ⟨S1024x8192, .bf16⟩
  | .local _ .vmem, ⟨0, _⟩ => ⟨S2x2x8x1024x512, .bf16⟩
  | .local _ .vmem, ⟨1, _⟩ => ⟨S4096x1024, .fp8e5m2⟩
  | .local _ .vmem, ⟨2, _⟩ => ⟨S1024x1024, .f32⟩
  | .local _ .vmem, ⟨3, _⟩ => ⟨S1024x8192, .fp8e5m2⟩
  | .local _ .vmem, ⟨4, _⟩ => ⟨S2x1024x512, .f32⟩
  | .local _ .vmem, ⟨5, _⟩ => ⟨S2x1024x512, .bf16⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 17 71 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 16

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v12 : BitVec 32 := Scalar.muli v5 c1_i32_7
  let v13 : BitVec 32 := Scalar.addi c0_i32 v12
  v13.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v14 : BitVec 32 := Scalar.muli v7 c1_i32_9
  let v15 : BitVec 32 := Scalar.addi c0_i32_10 v14
  v15.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_17 : BitVec 32 := 4#32
  let v21 : BitVec 32 := Scalar.addi v2 c4_i32_17
  let c1_i32_18 : BitVec 32 := 1#32
  let v22 : BitVec 32 := Scalar.subi v21 c1_i32_18
  let c4_i32_19 : BitVec 32 := 4#32
  let v23 : BitVec 32 := Scalar.remsi v22 c4_i32_19
  let c1024_i32 : BitVec 32 := 1024#32
  let v24 : BitVec 32 := Scalar.muli v23 c1024_i32
  let c0_i32_20 : BitVec 32 := 0#32
  ![v24.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_17 : BitVec 32 := 4#32
  let v21 : BitVec 32 := Scalar.addi v2 c4_i32_17
  let c1_i32_18 : BitVec 32 := 1#32
  let v22 : BitVec 32 := Scalar.subi v21 c1_i32_18
  let c4_i32_19 : BitVec 32 := 4#32
  let v23 : BitVec 32 := Scalar.remsi v22 c4_i32_19
  let c1024_i32_24 : BitVec 32 := 1024#32
  let v29 : BitVec 32 := Scalar.muli v23 c1024_i32_24
  let v30 : Index := Scalar.indexCast v29
  let c0_25 : Index := 0#32
  ![v30.toNat, 0]
def k0_off3 (d0 : Dev nD) (c1_i32_26 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v34 : BitVec 32 := Scalar.addi v2 c1_i32_26
  let c4_i32_27 : BitVec 32 := 4#32
  let v35 : BitVec 32 := Scalar.remsi v34 c4_i32_27
  let c1024_i32_28 : BitVec 32 := 1024#32
  let v36 : BitVec 32 := Scalar.muli v35 c1024_i32_28
  let c0_i32_29 : BitVec 32 := 0#32
  ![v36.toNat, 0]
def k0_off4 (d0 : Dev nD) (c1_i32_26 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v34 : BitVec 32 := Scalar.addi v2 c1_i32_26
  let c4_i32_27 : BitVec 32 := 4#32
  let v35 : BitVec 32 := Scalar.remsi v34 c4_i32_27
  let c1024_i32_33 : BitVec 32 := 1024#32
  let v41 : BitVec 32 := Scalar.muli v35 c1024_i32_33
  let v42 : Index := Scalar.indexCast v41
  let c0_34 : Index := 0#32
  ![v42.toNat, 0]
def k0_off5 (d0 : Dev nD) (c_m1_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_51 : BitVec 32 := 4#32
  let v62 : BitVec 32 := Scalar.addi v2 c4_i32_51
  let v63 : BitVec 32 := Scalar.addi v62 c_m1_i32
  let c4_i32_52 : BitVec 32 := 4#32
  let v64 : BitVec 32 := Scalar.remsi v63 c4_i32_52
  let c1024_i32_53 : BitVec 32 := 1024#32
  let v65 : BitVec 32 := Scalar.muli v64 c1024_i32_53
  let v66 : Index := Scalar.indexCast v65
  let c0_54 : Index := 0#32
  ![v66.toNat, 0]
def k0_dev3 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_74 : BitVec 32 := 1#32
  let v74 : BitVec 32 := Scalar.muli v7 c1_i32_74
  let v75 : BitVec 32 := Scalar.addi c0_i32_75 v74
  v75.toNat
def k0_dev4 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_119 : BitVec 32 := 1#32
  let v112 : BitVec 32 := Scalar.muli v5 c1_i32_119
  let v113 : BitVec 32 := Scalar.addi c0_i32_120 v112
  v113.toNat
def k0_dev5 (d0 : Dev nD) : Nat :=
  let c0_i32_166 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_165 : BitVec 32 := 1#32
  let v150 : BitVec 32 := Scalar.muli v7 c1_i32_165
  let v151 : BitVec 32 := Scalar.addi c0_i32_166 v150
  v151.toNat
def k0_dev6 (d0 : Dev nD) : Nat :=
  let c0_i32_213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_212 : BitVec 32 := 1#32
  let v188 : BitVec 32 := Scalar.muli v5 c1_i32_212
  let v189 : BitVec 32 := Scalar.addi c0_i32_213 v188
  v189.toNat
def k0_dev7 (d0 : Dev nD) : Nat :=
  let c0_i32_258 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_257 : BitVec 32 := 1#32
  let v226 : BitVec 32 := Scalar.muli v7 c1_i32_257
  let v227 : BitVec 32 := Scalar.addi c0_i32_258 v226
  v227.toNat
def k0_dev8 (d0 : Dev nD) : Nat :=
  let c0_i32_304 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_303 : BitVec 32 := 1#32
  let v264 : BitVec 32 := Scalar.muli v5 c1_i32_303
  let v265 : BitVec 32 := Scalar.addi c0_i32_304 v264
  v265.toNat
def k0_dev9 (d0 : Dev nD) : Nat :=
  let c0_i32_348 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_347 : BitVec 32 := 1#32
  let v302 : BitVec 32 := Scalar.muli v7 c1_i32_347
  let v303 : BitVec 32 := Scalar.addi c0_i32_348 v302
  v303.toNat
def k0_dev10 (d0 : Dev nD) : Nat :=
  let c0_i32_394 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_393 : BitVec 32 := 1#32
  let v340 : BitVec 32 := Scalar.muli v5 c1_i32_393
  let v341 : BitVec 32 := Scalar.addi c0_i32_394 v340
  v341.toNat
def k0_dev11 (d0 : Dev nD) : Nat :=
  let c0_i32_439 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_438 : BitVec 32 := 1#32
  let v378 : BitVec 32 := Scalar.muli v7 c1_i32_438
  let v379 : BitVec 32 := Scalar.addi c0_i32_439 v378
  v379.toNat
def k0_dev12 (d0 : Dev nD) : Nat :=
  let c0_i32_485 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_484 : BitVec 32 := 1#32
  let v416 : BitVec 32 := Scalar.muli v5 c1_i32_484
  let v417 : BitVec 32 := Scalar.addi c0_i32_485 v416
  v417.toNat
def k0_dev13 (d0 : Dev nD) : Nat :=
  let c0_i32_529 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_528 : BitVec 32 := 1#32
  let v454 : BitVec 32 := Scalar.muli v7 c1_i32_528
  let v455 : BitVec 32 := Scalar.addi c0_i32_529 v454
  v455.toNat
def k0_dev14 (d0 : Dev nD) : Nat :=
  let c0_i32_575 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_574 : BitVec 32 := 1#32
  let v492 : BitVec 32 := Scalar.muli v5 c1_i32_574
  let v493 : BitVec 32 := Scalar.addi c0_i32_575 v492
  v493.toNat
def k0_dev15 (d0 : Dev nD) : Nat :=
  let c0_i32_619 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_618 : BitVec 32 := 1#32
  let v530 : BitVec 32 := Scalar.muli v7 c1_i32_618
  let v531 : BitVec 32 := Scalar.addi c0_i32_619 v530
  v531.toNat
def k0_dev16 (d0 : Dev nD) : Nat :=
  let c0_i32_665 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_664 : BitVec 32 := 1#32
  let v568 : BitVec 32 := Scalar.muli v5 c1_i32_664
  let v569 : BitVec 32 := Scalar.addi c0_i32_665 v568
  v569.toNat
def k0_dev17 (d0 : Dev nD) : Nat :=
  let c0_i32_709 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_708 : BitVec 32 := 1#32
  let v606 : BitVec 32 := Scalar.muli v7 c1_i32_708
  let v607 : BitVec 32 := Scalar.addi c0_i32_709 v606
  v607.toNat
def k0_dev18 (d0 : Dev nD) : Nat :=
  let c0_i32_750 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_749 : BitVec 32 := 1#32
  let v639 : BitVec 32 := Scalar.muli v5 c1_i32_749
  let v640 : BitVec 32 := Scalar.addi c0_i32_750 v639
  v640.toNat
def k0_dev19 (d0 : Dev nD) : Nat :=
  let c0_i32_810 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_809 : BitVec 32 := 1#32
  let v684 : BitVec 32 := Scalar.muli v5 c1_i32_809
  let v685 : BitVec 32 := Scalar.addi c0_i32_810 v684
  v685.toNat
def k0_dev20 (d0 : Dev nD) : Nat :=
  let c0_i32_838 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_837 : BitVec 32 := 1#32
  let v695 : BitVec 32 := Scalar.muli v7 c1_i32_837
  let v696 : BitVec 32 := Scalar.addi c0_i32_838 v695
  v696.toNat
def k0_dev21 (d0 : Dev nD) : Nat :=
  let c0_i32_889 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_888 : BitVec 32 := 1#32
  let v728 : BitVec 32 := Scalar.muli v7 c1_i32_888
  let v729 : BitVec 32 := Scalar.addi c0_i32_889 v728
  v729.toNat
def k0_dev22 (d0 : Dev nD) : Nat :=
  let c0_i32_917 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_916 : BitVec 32 := 1#32
  let v739 : BitVec 32 := Scalar.muli v5 c1_i32_916
  let v740 : BitVec 32 := Scalar.addi c0_i32_917 v739
  v740.toNat
def k0_dev23 (d0 : Dev nD) : Nat :=
  let c0_i32_968 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_967 : BitVec 32 := 1#32
  let v772 : BitVec 32 := Scalar.muli v5 c1_i32_967
  let v773 : BitVec 32 := Scalar.addi c0_i32_968 v772
  v773.toNat
def k0_dev24 (d0 : Dev nD) : Nat :=
  let c0_i32_996 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_995 : BitVec 32 := 1#32
  let v783 : BitVec 32 := Scalar.muli v7 c1_i32_995
  let v784 : BitVec 32 := Scalar.addi c0_i32_996 v783
  v784.toNat
def k0_dev25 (d0 : Dev nD) : Nat :=
  let c0_i32_1047 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1046 : BitVec 32 := 1#32
  let v816 : BitVec 32 := Scalar.muli v7 c1_i32_1046
  let v817 : BitVec 32 := Scalar.addi c0_i32_1047 v816
  v817.toNat
def k0_dev26 (d0 : Dev nD) : Nat :=
  let c0_i32_1075 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1074 : BitVec 32 := 1#32
  let v827 : BitVec 32 := Scalar.muli v5 c1_i32_1074
  let v828 : BitVec 32 := Scalar.addi c0_i32_1075 v827
  v828.toNat
def k0_dev27 (d0 : Dev nD) : Nat :=
  let c0_i32_1126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1125 : BitVec 32 := 1#32
  let v860 : BitVec 32 := Scalar.muli v5 c1_i32_1125
  let v861 : BitVec 32 := Scalar.addi c0_i32_1126 v860
  v861.toNat
def k0_dev28 (d0 : Dev nD) : Nat :=
  let c0_i32_1154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1153 : BitVec 32 := 1#32
  let v871 : BitVec 32 := Scalar.muli v7 c1_i32_1153
  let v872 : BitVec 32 := Scalar.addi c0_i32_1154 v871
  v872.toNat
def k0_dev29 (d0 : Dev nD) : Nat :=
  let c0_i32_1205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1204 : BitVec 32 := 1#32
  let v904 : BitVec 32 := Scalar.muli v7 c1_i32_1204
  let v905 : BitVec 32 := Scalar.addi c0_i32_1205 v904
  v905.toNat
def k0_dev30 (d0 : Dev nD) : Nat :=
  let c0_i32_1233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1232 : BitVec 32 := 1#32
  let v915 : BitVec 32 := Scalar.muli v5 c1_i32_1232
  let v916 : BitVec 32 := Scalar.addi c0_i32_1233 v915
  v916.toNat
def k0_dev31 (d0 : Dev nD) : Nat :=
  let c0_i32_1284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1283 : BitVec 32 := 1#32
  let v948 : BitVec 32 := Scalar.muli v5 c1_i32_1283
  let v949 : BitVec 32 := Scalar.addi c0_i32_1284 v948
  v949.toNat
def k0_dev32 (d0 : Dev nD) : Nat :=
  let c0_i32_1312 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1311 : BitVec 32 := 1#32
  let v959 : BitVec 32 := Scalar.muli v7 c1_i32_1311
  let v960 : BitVec 32 := Scalar.addi c0_i32_1312 v959
  v960.toNat
def k0_dev33 (d0 : Dev nD) : Nat :=
  let c0_i32_1363 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1362 : BitVec 32 := 1#32
  let v992 : BitVec 32 := Scalar.muli v7 c1_i32_1362
  let v993 : BitVec 32 := Scalar.addi c0_i32_1363 v992
  v993.toNat
def k0_dev34 (d0 : Dev nD) : Nat :=
  let c0_i32_1391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1390 : BitVec 32 := 1#32
  let v1003 : BitVec 32 := Scalar.muli v5 c1_i32_1390
  let v1004 : BitVec 32 := Scalar.addi c0_i32_1391 v1003
  v1004.toNat
def k0_dev35 (d0 : Dev nD) : Nat :=
  let c0_i32_1442 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1441 : BitVec 32 := 1#32
  let v1036 : BitVec 32 := Scalar.muli v5 c1_i32_1441
  let v1037 : BitVec 32 := Scalar.addi c0_i32_1442 v1036
  v1037.toNat
def k0_dev36 (d0 : Dev nD) : Nat :=
  let c0_i32_1470 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1469 : BitVec 32 := 1#32
  let v1047 : BitVec 32 := Scalar.muli v7 c1_i32_1469
  let v1048 : BitVec 32 := Scalar.addi c0_i32_1470 v1047
  v1048.toNat
def k0_dev37 (d0 : Dev nD) : Nat :=
  let c0_i32_1521 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1520 : BitVec 32 := 1#32
  let v1080 : BitVec 32 := Scalar.muli v7 c1_i32_1520
  let v1081 : BitVec 32 := Scalar.addi c0_i32_1521 v1080
  v1081.toNat
def k0_dev38 (d0 : Dev nD) : Nat :=
  let c0_i32_1549 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1548 : BitVec 32 := 1#32
  let v1091 : BitVec 32 := Scalar.muli v5 c1_i32_1548
  let v1092 : BitVec 32 := Scalar.addi c0_i32_1549 v1091
  v1092.toNat
def k0_dev39 (d0 : Dev nD) : Nat :=
  let c0_i32_1600 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1599 : BitVec 32 := 1#32
  let v1124 : BitVec 32 := Scalar.muli v5 c1_i32_1599
  let v1125 : BitVec 32 := Scalar.addi c0_i32_1600 v1124
  v1125.toNat
def k0_dev40 (d0 : Dev nD) : Nat :=
  let c0_i32_1628 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1627 : BitVec 32 := 1#32
  let v1135 : BitVec 32 := Scalar.muli v7 c1_i32_1627
  let v1136 : BitVec 32 := Scalar.addi c0_i32_1628 v1135
  v1136.toNat
def k0_dev41 (d0 : Dev nD) : Nat :=
  let c0_i32_1679 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1678 : BitVec 32 := 1#32
  let v1168 : BitVec 32 := Scalar.muli v7 c1_i32_1678
  let v1169 : BitVec 32 := Scalar.addi c0_i32_1679 v1168
  v1169.toNat
def k0_dev42 (d0 : Dev nD) : Nat :=
  let c0_i32_1707 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1706 : BitVec 32 := 1#32
  let v1179 : BitVec 32 := Scalar.muli v5 c1_i32_1706
  let v1180 : BitVec 32 := Scalar.addi c0_i32_1707 v1179
  v1180.toNat
def k0_dev43 (d0 : Dev nD) : Nat :=
  let c0_i32_1758 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1757 : BitVec 32 := 1#32
  let v1212 : BitVec 32 := Scalar.muli v5 c1_i32_1757
  let v1213 : BitVec 32 := Scalar.addi c0_i32_1758 v1212
  v1213.toNat
def k0_dev44 (d0 : Dev nD) : Nat :=
  let c0_i32_1786 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1785 : BitVec 32 := 1#32
  let v1223 : BitVec 32 := Scalar.muli v7 c1_i32_1785
  let v1224 : BitVec 32 := Scalar.addi c0_i32_1786 v1223
  v1224.toNat
def k0_dev45 (d0 : Dev nD) : Nat :=
  let c0_i32_1837 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1836 : BitVec 32 := 1#32
  let v1256 : BitVec 32 := Scalar.muli v7 c1_i32_1836
  let v1257 : BitVec 32 := Scalar.addi c0_i32_1837 v1256
  v1257.toNat
def k0_dev46 (d0 : Dev nD) : Nat :=
  let c0_i32_1865 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1864 : BitVec 32 := 1#32
  let v1267 : BitVec 32 := Scalar.muli v5 c1_i32_1864
  let v1268 : BitVec 32 := Scalar.addi c0_i32_1865 v1267
  v1268.toNat
def k0_dev47 (d0 : Dev nD) : Nat :=
  let c0_i32_1916 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1915 : BitVec 32 := 1#32
  let v1300 : BitVec 32 := Scalar.muli v5 c1_i32_1915
  let v1301 : BitVec 32 := Scalar.addi c0_i32_1916 v1300
  v1301.toNat
def k0_dev48 (d0 : Dev nD) : Nat :=
  let c0_i32_1944 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1943 : BitVec 32 := 1#32
  let v1311 : BitVec 32 := Scalar.muli v7 c1_i32_1943
  let v1312 : BitVec 32 := Scalar.addi c0_i32_1944 v1311
  v1312.toNat
def k0_dev49 (d0 : Dev nD) : Nat :=
  let c0_i32_1995 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1994 : BitVec 32 := 1#32
  let v1344 : BitVec 32 := Scalar.muli v7 c1_i32_1994
  let v1345 : BitVec 32 := Scalar.addi c0_i32_1995 v1344
  v1345.toNat
def k0_dev50 (d0 : Dev nD) : Nat :=
  let c0_i32_2023 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2022 : BitVec 32 := 1#32
  let v1355 : BitVec 32 := Scalar.muli v5 c1_i32_2022
  let v1356 : BitVec 32 := Scalar.addi c0_i32_2023 v1355
  v1356.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_2028 : BitVec 32 := 1024#32
  let v1365 : BitVec 32 := Scalar.muli v2 c1024_i32_2028
  let c0_i32_2029 : BitVec 32 := 0#32
  ![v1365.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_2033 : BitVec 32 := 1024#32
  let v1370 : BitVec 32 := Scalar.muli v2 c1024_i32_2033
  let v1371 : Index := Scalar.indexCast v1370
  let c0_2034 : Index := 0#32
  ![v1371.toNat, 0]
def k0_dev51 (d0 : Dev nD) : Nat :=
  let c0_i32_2081 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2080 : BitVec 32 := 1#32
  let v1398 : BitVec 32 := Scalar.muli v5 c1_i32_2080
  let v1399 : BitVec 32 := Scalar.addi c0_i32_2081 v1398
  v1399.toNat
def k0_dev52 (d0 : Dev nD) : Nat :=
  let c0_i32_2109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2108 : BitVec 32 := 1#32
  let v1409 : BitVec 32 := Scalar.muli v7 c1_i32_2108
  let v1410 : BitVec 32 := Scalar.addi c0_i32_2109 v1409
  v1410.toNat
def k0_dev53 (d0 : Dev nD) : Nat :=
  let c0_i32_2160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2159 : BitVec 32 := 1#32
  let v1442 : BitVec 32 := Scalar.muli v7 c1_i32_2159
  let v1443 : BitVec 32 := Scalar.addi c0_i32_2160 v1442
  v1443.toNat
def k0_dev54 (d0 : Dev nD) : Nat :=
  let c0_i32_2188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2187 : BitVec 32 := 1#32
  let v1453 : BitVec 32 := Scalar.muli v5 c1_i32_2187
  let v1454 : BitVec 32 := Scalar.addi c0_i32_2188 v1453
  v1454.toNat
def k0_dev55 (d0 : Dev nD) : Nat :=
  let c0_i32_2239 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2238 : BitVec 32 := 1#32
  let v1486 : BitVec 32 := Scalar.muli v5 c1_i32_2238
  let v1487 : BitVec 32 := Scalar.addi c0_i32_2239 v1486
  v1487.toNat
def k0_dev56 (d0 : Dev nD) : Nat :=
  let c0_i32_2267 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2266 : BitVec 32 := 1#32
  let v1497 : BitVec 32 := Scalar.muli v7 c1_i32_2266
  let v1498 : BitVec 32 := Scalar.addi c0_i32_2267 v1497
  v1498.toNat
def k0_dev57 (d0 : Dev nD) : Nat :=
  let c0_i32_2318 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2317 : BitVec 32 := 1#32
  let v1530 : BitVec 32 := Scalar.muli v7 c1_i32_2317
  let v1531 : BitVec 32 := Scalar.addi c0_i32_2318 v1530
  v1531.toNat
def k0_dev58 (d0 : Dev nD) : Nat :=
  let c0_i32_2346 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2345 : BitVec 32 := 1#32
  let v1541 : BitVec 32 := Scalar.muli v5 c1_i32_2345
  let v1542 : BitVec 32 := Scalar.addi c0_i32_2346 v1541
  v1542.toNat
def k0_dev59 (d0 : Dev nD) : Nat :=
  let c0_i32_2397 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2396 : BitVec 32 := 1#32
  let v1574 : BitVec 32 := Scalar.muli v5 c1_i32_2396
  let v1575 : BitVec 32 := Scalar.addi c0_i32_2397 v1574
  v1575.toNat
def k0_dev60 (d0 : Dev nD) : Nat :=
  let c0_i32_2425 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2424 : BitVec 32 := 1#32
  let v1585 : BitVec 32 := Scalar.muli v7 c1_i32_2424
  let v1586 : BitVec 32 := Scalar.addi c0_i32_2425 v1585
  v1586.toNat
def k0_dev61 (d0 : Dev nD) : Nat :=
  let c0_i32_2476 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2475 : BitVec 32 := 1#32
  let v1618 : BitVec 32 := Scalar.muli v7 c1_i32_2475
  let v1619 : BitVec 32 := Scalar.addi c0_i32_2476 v1618
  v1619.toNat
def k0_dev62 (d0 : Dev nD) : Nat :=
  let c0_i32_2504 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2503 : BitVec 32 := 1#32
  let v1629 : BitVec 32 := Scalar.muli v5 c1_i32_2503
  let v1630 : BitVec 32 := Scalar.addi c0_i32_2504 v1629
  v1630.toNat
def k0_dev63 (d0 : Dev nD) : Nat :=
  let c0_i32_2555 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2554 : BitVec 32 := 1#32
  let v1662 : BitVec 32 := Scalar.muli v5 c1_i32_2554
  let v1663 : BitVec 32 := Scalar.addi c0_i32_2555 v1662
  v1663.toNat
def k0_dev64 (d0 : Dev nD) : Nat :=
  let c0_i32_2583 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2582 : BitVec 32 := 1#32
  let v1673 : BitVec 32 := Scalar.muli v7 c1_i32_2582
  let v1674 : BitVec 32 := Scalar.addi c0_i32_2583 v1673
  v1674.toNat
def k0_dev65 (d0 : Dev nD) : Nat :=
  let c0_i32_2634 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2633 : BitVec 32 := 1#32
  let v1706 : BitVec 32 := Scalar.muli v7 c1_i32_2633
  let v1707 : BitVec 32 := Scalar.addi c0_i32_2634 v1706
  v1707.toNat
def k0_dev66 (d0 : Dev nD) : Nat :=
  let c0_i32_2662 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2661 : BitVec 32 := 1#32
  let v1717 : BitVec 32 := Scalar.muli v5 c1_i32_2661
  let v1718 : BitVec 32 := Scalar.addi c0_i32_2662 v1717
  v1718.toNat
def k0_dev67 (d0 : Dev nD) : Nat :=
  let c0_i32_2713 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2712 : BitVec 32 := 1#32
  let v1750 : BitVec 32 := Scalar.muli v5 c1_i32_2712
  let v1751 : BitVec 32 := Scalar.addi c0_i32_2713 v1750
  v1751.toNat
def k0_dev68 (d0 : Dev nD) : Nat :=
  let c0_i32_2741 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2740 : BitVec 32 := 1#32
  let v1761 : BitVec 32 := Scalar.muli v7 c1_i32_2740
  let v1762 : BitVec 32 := Scalar.addi c0_i32_2741 v1761
  v1762.toNat
def k0_dev69 (d0 : Dev nD) : Nat :=
  let c0_i32_2792 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2791 : BitVec 32 := 1#32
  let v1794 : BitVec 32 := Scalar.muli v7 c1_i32_2791
  let v1795 : BitVec 32 := Scalar.addi c0_i32_2792 v1794
  v1795.toNat
def k0_dev70 (d0 : Dev nD) : Nat :=
  let c0_i32_2820 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2819 : BitVec 32 := 1#32
  let v1805 : BitVec 32 := Scalar.muli v5 c1_i32_2819
  let v1806 : BitVec 32 := Scalar.addi c0_i32_2820 v1805
  v1806.toNat
def k0_dev71 (d0 : Dev nD) : Nat :=
  let c0_i32_2871 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2870 : BitVec 32 := 1#32
  let v1838 : BitVec 32 := Scalar.muli v5 c1_i32_2870
  let v1839 : BitVec 32 := Scalar.addi c0_i32_2871 v1838
  v1839.toNat
def k0_dev72 (d0 : Dev nD) : Nat :=
  let c0_i32_2899 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2898 : BitVec 32 := 1#32
  let v1849 : BitVec 32 := Scalar.muli v7 c1_i32_2898
  let v1850 : BitVec 32 := Scalar.addi c0_i32_2899 v1849
  v1850.toNat
def k0_dev73 (d0 : Dev nD) : Nat :=
  let c0_i32_2950 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2949 : BitVec 32 := 1#32
  let v1882 : BitVec 32 := Scalar.muli v7 c1_i32_2949
  let v1883 : BitVec 32 := Scalar.addi c0_i32_2950 v1882
  v1883.toNat
def k0_dev74 (d0 : Dev nD) : Nat :=
  let c0_i32_2978 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2977 : BitVec 32 := 1#32
  let v1893 : BitVec 32 := Scalar.muli v5 c1_i32_2977
  let v1894 : BitVec 32 := Scalar.addi c0_i32_2978 v1893
  v1894.toNat
def k0_dev75 (d0 : Dev nD) : Nat :=
  let c0_i32_3029 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_3028 : BitVec 32 := 1#32
  let v1926 : BitVec 32 := Scalar.muli v5 c1_i32_3028
  let v1927 : BitVec 32 := Scalar.addi c0_i32_3029 v1926
  v1927.toNat
def k0_dev76 (d0 : Dev nD) : Nat :=
  let c0_i32_3057 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_3056 : BitVec 32 := 1#32
  let v1937 : BitVec 32 := Scalar.muli v7 c1_i32_3056
  let v1938 : BitVec 32 := Scalar.addi c0_i32_3057 v1937
  v1938.toNat
def k0_dev77 (d0 : Dev nD) : Nat :=
  let c0_i32_3108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_3107 : BitVec 32 := 1#32
  let v1970 : BitVec 32 := Scalar.muli v7 c1_i32_3107
  let v1971 : BitVec 32 := Scalar.addi c0_i32_3108 v1970
  v1971.toNat
def k0_dev78 (d0 : Dev nD) : Nat :=
  let c0_i32_3136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_3135 : BitVec 32 := 1#32
  let v1981 : BitVec 32 := Scalar.muli v5 c1_i32_3135
  let v1982 : BitVec 32 := Scalar.addi c0_i32_3136 v1981
  v1982.toNat
def k0_dev79 (d0 : Dev nD) : Nat :=
  let c0_i32_3187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_3186 : BitVec 32 := 1#32
  let v2014 : BitVec 32 := Scalar.muli v5 c1_i32_3186
  let v2015 : BitVec 32 := Scalar.addi c0_i32_3187 v2014
  v2015.toNat
def k0_dev80 (d0 : Dev nD) : Nat :=
  let c0_i32_3215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_3214 : BitVec 32 := 1#32
  let v2025 : BitVec 32 := Scalar.muli v7 c1_i32_3214
  let v2026 : BitVec 32 := Scalar.addi c0_i32_3215 v2025
  v2026.toNat
def k0_dev81 (d0 : Dev nD) : Nat :=
  let c0_i32_3266 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_3265 : BitVec 32 := 1#32
  let v2058 : BitVec 32 := Scalar.muli v7 c1_i32_3265
  let v2059 : BitVec 32 := Scalar.addi c0_i32_3266 v2058
  v2059.toNat
def k0_dev82 (d0 : Dev nD) : Nat :=
  let c0_i32_3294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_3293 : BitVec 32 := 1#32
  let v2069 : BitVec 32 := Scalar.muli v5 c1_i32_3293
  let v2070 : BitVec 32 := Scalar.addi c0_i32_3294 v2069
  v2070.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S4096x8192, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== ClippedIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Kernel.Eq.lean ====
/-
The printed body is the program over tiles: unfolding both gives the same line of operations.
-/
module

public import proofs.«01_k».proof.Proof.Kernel.Prog
public import Idealize.ShloMosaic.Lib.Pipeline.Regions

@[expose] public section

noncomputable section

namespace Cert.KernelProof

open Cert.Kernel Cert.Kernel.Gen
open Idealize.ShloMosaic
open Idealize.ShloMosaic.TcCoe
open Idealize.SL Idealize.SL.Sem

variable {F : FTy → Type} [FloatOps F]

theorem body_eq : (cc0_body aM (Memref.isWhole_whole _) bM (Memref.isWhole_whole _) s0M (Memref.isWhole_whole _) s1M (Memref.isWhole_whole _)
    oM (Memref.isWhole_whole _) cM (Memref.isWhole_whole _) x8M (Memref.isWhole_whole _) xsM (Memref.isWhole_whole _) w8M (Memref.isWhole_whole _)
    wsM (Memref.isWhole_whole _) stM (Memref.isWhole_whole _)
    cc0_scratch6 cc0_scratch7 cc0_scratch8 cc0_scratch9 cc0_scratch10 cc0_scratch11 : P F PUnit) = prog := by
  chain_rfl

end Cert.KernelProof
-- ==== Proof.KernelIdeal.Prog.lean ====
/-
The kernel as a program over TILES. The printed body is one straight line of some 650 operations; here it is
the same line written once per kind of step — fill a row chunk of `x`, send a tile's first partial product,
add to a passing tile and send it on, finish a tile — over a direction `d` (0: around the ring to the next
device, 1: to the previous one) and a tile number `u`, and run over the lists of both.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The buffers, whole -/

abbrev aM : Memref sig .tc .hbm S4096x1024 .f32 := Memref.whole main_arg0
abbrev bM : Memref sig .tc .hbm S1024x8192 .f32 := Memref.whole main_arg1
abbrev s0M : Memref sig .tc .smem S1 .f32 := Memref.whole cc0_stg0_0
abbrev s1M : Memref sig .tc .smem S1 .f32 := Memref.whole cc0_stg1_0
abbrev oM : Memref sig .tc .hbm S1024x8192 .bf16 := Memref.whole main_v1
abbrev cM : Memref sig .tc .vmem S2x2x8x1024x512 .bf16 := Memref.whole cc0_scratch0
abbrev x8M : Memref sig .tc .vmem S4096x1024 .fp8e5m2 := Memref.whole cc0_scratch1
abbrev xsM : Memref sig .tc .vmem S1024x1024 .f32 := Memref.whole cc0_scratch2
abbrev w8M : Memref sig .tc .vmem S1024x8192 .fp8e5m2 := Memref.whole cc0_scratch3
abbrev wsM : Memref sig .tc .vmem S2x1024x512 .f32 := Memref.whole cc0_scratch4
abbrev stM : Memref sig .tc .vmem S2x1024x512 .bf16 := Memref.whole cc0_scratch5

/-! ## The rectangles of a tile -/

set_option backward.proofsInPublic true in
/-- The column a tile starts at. -/
def col (d : Fin 2) (u : Fin 8) : ℕ := d.val * 4096 + u.val * 512

theorem inbCol (d : Fin 2) (u : Fin 8) : ∀ a, (![0, col d u] : Fin 2 → ℕ) a + S1024x512.size a ≤ S1024x8192.size a := by
  revert d u; decide
theorem inbBuf (d : Fin 2) : ∀ a, (![d.val, 0, 0] : Fin 3 → ℕ) a + S1x1024x512.size a ≤ S2x1024x512.size a := by
  revert d; decide
theorem inbCm (d j : Fin 2) (u : Fin 8) :
    ∀ a, (![d.val, j.val, u.val, 0, 0] : Fin 5 → ℕ) a + S1x1x1x1024x512.size a ≤ S2x2x8x1024x512.size a := by
  revert d j u; decide

abbrev rCol (d : Fin 2) (u : Fin 8) : Rect S1024x8192 := Rect.unit (s := S1024x8192) ![0, col d u] S1024x512.size (inbCol d u)
abbrev rBuf (d : Fin 2) : Rect S2x1024x512 := Rect.unit (s := S2x1024x512) ![d.val, 0, 0] S1x1024x512.size (inbBuf d)
abbrev rCm (d j : Fin 2) (u : Fin 8) : Rect S2x2x8x1024x512 :=
  Rect.unit (s := S2x2x8x1024x512) ![d.val, j.val, u.val, 0, 0] S1x1x1x1024x512.size (inbCm d j u)
abbrev rX (o : Fin 2 → ℕ) (h : ∀ a, o a + S1024x1024.size a ≤ S4096x1024.size a) : Rect S4096x1024 :=
  Rect.unit (s := S4096x1024) o S1024x1024.size h
abbrev rXs : Rect S1024x1024 := Rect.unit (s := S1024x1024) ![0, 0] S1024x1024.size inb_S1024x1024_S1024x1024_0_0

set_option maxRecDepth 4000 in
theorem wordsCol (d : Fin 2) (u : Fin 8) : (rCol d u).WholeWords (EltTy.packing .bf16) := by revert d u; decide
theorem packedCol (d : Fin 2) (u : Fin 8) : (rCol d u).PackedRows (EltTy.packing .fp8e5m2) := by revert d u; decide
theorem wordsBuf (d : Fin 2) : (rBuf d).WholeWords (EltTy.packing .bf16) := by revert d; decide
theorem packedBuf (d : Fin 2) : (rBuf d).PackedRows (EltTy.packing .bf16) := by revert d; decide
set_option maxRecDepth 4000 in
theorem wordsCm (d j : Fin 2) (u : Fin 8) : (rCm d j u).WholeWords (EltTy.packing .bf16) := by revert d j u; decide
set_option maxRecDepth 4000 in
theorem packedCm (d j : Fin 2) (u : Fin 8) : (rCm d j u).PackedRows (EltTy.packing .bf16) := by revert d j u; decide

/-! ## The views the transfers name, and their semaphores -/

abbrev aV (o : Fin 2 → ℕ) (h : ∀ a, o a + S1024x1024.size a ≤ S4096x1024.size a) : Memref sig .tc .hbm S1024x1024 .f32 :=
  aM.slice (rX o h) (fun _ => rfl)
abbrev bV (d : Fin 2) (u : Fin 8) : Memref sig .tc .hbm S1024x512 .f32 := bM.slice (rCol d u) (fun _ => rfl)
abbrev oV (d : Fin 2) (u : Fin 8) : Memref sig .tc .hbm S1024x512 .bf16 := oM.slice (rCol d u) (fun _ => rfl)
abbrev wsV (d : Fin 2) : Memref sig .tc .vmem S1024x512 .f32 :=
  (wsM.slice (rBuf d) (fun _ => rfl)).squeeze S1024x512 squeezes_S1x1024x512_S1024x512
abbrev stV (d : Fin 2) : Memref sig .tc .vmem S1024x512 .bf16 :=
  (stM.slice (rBuf d) (fun _ => rfl)).squeeze S1024x512 squeezes_S1x1024x512_S1024x512
abbrev cV (d j : Fin 2) (u : Fin 8) : Memref sig .tc .vmem S1024x512 .bf16 :=
  (cM.slice (rCm d j u) (fun _ => rfl)).squeeze S1024x512 squeezes_S1x1x1x1024x512_S1024x512

theorem inbS3 (d j : Fin 2) (u : Fin 8) : ∀ a, (![d.val, j.val, u.val] : Fin 3 → ℕ) a + S1x1x1.size a ≤ S2x2x8.size a := by
  revert d j u; decide
theorem inbS2 (d : Fin 2) (u : Fin 8) : ∀ a, (![d.val, u.val] : Fin 2 → ℕ) a + S1x1.size a ≤ S2x8.size a := by
  revert d u; decide
theorem inbS1 (d : Fin 2) : ∀ a, (![d.val] : Fin 1 → ℕ) a + S1.size a ≤ S2.size a := by revert d; decide

abbrev barS : Sem sig := (SemArray.scalar (sig.barrier 0 rfl) : Sems sig S_).sem
abbrev sendS (d j : Fin 2) (u : Fin 8) : DmaSem sig :=
  (((cc0_scratch6 : DmaSems sig S2x2x8).slice (Rect.unit (s := S2x2x8) ![d.val, j.val, u.val] S1x1x1.size (inbS3 d j u))).squeeze S_ squeezes_S1x1x1_S_).sem
abbrev recvS (d j : Fin 2) (u : Fin 8) : DmaSem sig :=
  (((cc0_scratch7 : DmaSems sig S2x2x8).slice (Rect.unit (s := S2x2x8) ![d.val, j.val, u.val] S1x1x1.size (inbS3 d j u))).squeeze S_ squeezes_S1x1x1_S_).sem
abbrev credS (d : Fin 2) (u : Fin 8) : Sem sig :=
  (((cc0_scratch8 : Sems sig S2x8).slice (Rect.unit (s := S2x8) ![d.val, u.val] S1x1.size (inbS2 d u))).squeeze S_ squeezes_S1x1_S_).sem
abbrev outS (d : Fin 2) : DmaSem sig :=
  (((cc0_scratch9 : DmaSems sig S2).slice (Rect.unit (s := S2) ![d.val] S1.size (inbS1 d))).squeeze S_ squeezes_S1_S_).sem
abbrev wsS (d : Fin 2) : DmaSem sig :=
  (((cc0_scratch10 : DmaSems sig S2).slice (Rect.unit (s := S2) ![d.val] S1.size (inbS1 d))).squeeze S_ squeezes_S1_S_).sem
abbrev xsS : DmaSem sig := (cc0_scratch11 : DmaSems sig S_).sem

/-! ## The steps -/

/-- A program of the kernel's TensorCore. -/
abbrev P (F : FTy → Type) [FloatOps F] (α : Type) := Prog (TpuEff nD τ sig (Elt F) Λ₀ .tc) α

/-- Fetch the row chunk of `x` at `s`, round it, and keep it at `o`. -/
def xconv (s o : Fin 2 → ℕ) (hs : ∀ a, s a + S1024x1024.size a ≤ S4096x1024.size a)
    (ho : ∀ a, o a + S1024x1024.size a ≤ S4096x1024.size a) (hp : (rX o ho).PackedRows (EltTy.packing .fp8e5m2)) : P F PUnit := do
  Prog.lift (.enqueueDma (aV s hs) (.here xsM) (.dma xsS) (View.wordExact_bits rfl) (Memref.isWhole_whole _).wordExact ⟨Or.inl rfl, trivial⟩)
  Prog.lift (.waitDma2 xsS (aV s hs) xsM (View.wordExact_bits rfl) (Memref.isWhole_whole _).wordExact)
  let v : Vec F S1024x1024 .f32 ← Prog.lift (.load xsM rXs.toLoadRect (View.loadsAt_vmem h_S1024x1024))
  let _ : Vec F S1024x1024 .fp8e5m2 ← Prog.lift (.load x8M (rX o ho).toLoadRect (View.loadsAt_vmem h_S1024x1024))
  Prog.lift (.store x8M (rX o ho) (k0_pay2 v) Finset.univ
    (View.stores_vmem h_S1024x1024 ((Memref.isWhole_whole _).storeExact_slice rfl _ hp) (fun _ => rfl)) (.inl rfl))

/-- Start fetching a tile of `w`. -/
def fetchW (d : Fin 2) (u : Fin 8) : P F PUnit :=
  Prog.lift (.enqueueDma (bV d u) (.here (wsV d)) (.dma (wsS d)) (View.wordExact_bits rfl) ((View.wordExact_bits rfl).reshape _ _) ⟨Or.inl rfl, trivial⟩)

/-- The first step of a tile: wait for its piece of `w`, start the `next` fetch, round and keep the piece,
    store the first partial product, and send it to the device `t`. -/
def tileA (next : P F PUnit) (t : Dev nD) (d : Fin 2) (u : Fin 8) (o : Fin 2 → ℕ)
    (ho : ∀ a, o a + S1024x1024.size a ≤ S4096x1024.size a) : P F PUnit := do
  Prog.lift (.waitDma2 (wsS d) (bV d u) (wsV d) (View.wordExact_bits rfl) ((View.wordExact_bits rfl).reshape _ _))
  next
  let v : Vec F S1x1024x512 .f32 ← Prog.lift (.load wsM (rBuf d).toLoadRect (View.loadsAt_vmem h_S1x1024x512))
  let _ : Vec F S1024x512 .fp8e5m2 ← Prog.lift (.load w8M (rCol d u).toLoadRect (View.loadsAt_vmem h_S1024x512))
  Prog.lift (.store w8M (rCol d u) (k0_pay4 v) Finset.univ
    (View.stores_vmem h_S1024x512 ((Memref.isWhole_whole _).storeExact_slice rfl _ (packedCol d u)) (fun _ => rfl)) (.inl rfl))
  let x : Vec F S1024x1024 .fp8e5m2 ← Prog.lift (.load x8M (rX o ho).toLoadRect (View.loadsAt_vmem h_S1024x1024))
  let w : Vec F S1024x512 .fp8e5m2 ← Prog.lift (.load w8M (rCol d u).toLoadRect (View.loadsAt_vmem h_S1024x512))
  let _ : Vec F S1x1x1x1024x512 .bf16 ← Prog.lift (.load cM (rCm d 0 u).toLoadRect (View.loadsAt_vmem h_S1x1x1x1024x512))
  Prog.lift (.store cM (rCm d 0 u) (k0_pay5 x w) Finset.univ
    (View.stores_vmem h_S1x1x1x1024x512 ((Memref.isWhole_whole _).storeExact_slice rfl _ (packedCm d 0 u)) (fun _ => rfl)) (.inl rfl))
  Prog.lift (.enqueueDma (cV d 0 u) (.remote (Dev.tc t) (cV d 1 u) (.dma (sendS d 0 u))) (.dma (recvS d 1 u))
    (((Memref.isWhole_whole _).wordExact_slice rfl _ (wordsCm d 0 u)).reshape _ _)
    (((Memref.isWhole_whole _).wordExact_slice rfl _ (wordsCm d 1 u)).reshape _ _) ⟨⟨rfl, Or.inl rfl⟩, trivial⟩)

/-- A middle step of a tile: the sum so far has arrived in slot `j`; tell the device `f` it came from that the
    other slot `i` is free again, add this device's partial product, and send the sum on to the device `t`'s slot `i`. -/
def tileH (i j : Fin 2) (f t : Dev nD) (d : Fin 2) (u : Fin 8) (o : Fin 2 → ℕ)
    (ho : ∀ a, o a + S1024x1024.size a ≤ S4096x1024.size a) : P F PUnit := do
  let x : Vec F S1024x1024 .fp8e5m2 ← Prog.lift (.load x8M (rX o ho).toLoadRect (View.loadsAt_vmem h_S1024x1024))
  let w : Vec F S1024x512 .fp8e5m2 ← Prog.lift (.load w8M (rCol d u).toLoadRect (View.loadsAt_vmem h_S1024x512))
  Prog.lift (.waitDma2 (sendS d i u) (cV d j u) (cV d i u)
    (((Memref.isWhole_whole _).wordExact_slice rfl _ (wordsCm d j u)).reshape _ _)
    (((Memref.isWhole_whole _).wordExact_slice rfl _ (wordsCm d i u)).reshape _ _))
  Prog.lift (.waitDma2 (recvS d j u) (cV d i u) (cV d j u)
    (((Memref.isWhole_whole _).wordExact_slice rfl _ (wordsCm d i u)).reshape _ _)
    (((Memref.isWhole_whole _).wordExact_slice rfl _ (wordsCm d j u)).reshape _ _))
  semSignalWord f (credS d u) 1#32
  let v : Vec F S1x1x1x1024x512 .bf16 ← Prog.lift (.load cM (rCm d j u).toLoadRect (View.loadsAt_vmem h_S1x1x1x1024x512))
  let _ : Vec F S1x1x1x1024x512 .bf16 ← Prog.lift (.load cM (rCm d j u).toLoadRect (View.loadsAt_vmem h_S1x1x1x1024x512))
  Prog.lift (.store cM (rCm d j u) (k0_pay41 (k0_pay40 x w) v) Finset.univ
    (View.stores_vmem h_S1x1x1x1024x512 ((Memref.isWhole_whole _).storeExact_slice rfl _ (packedCm d j u)) (fun _ => rfl)) (.inl rfl))
  semWaitWord (credS d u) 1#32
  Prog.lift (.enqueueDma (cV d j u) (.remote (Dev.tc t) (cV d i u) (.dma (sendS d j u))) (.dma (recvS d i u))
    (((Memref.isWhole_whole _).wordExact_slice rfl _ (wordsCm d j u)).reshape _ _)
    (((Memref.isWhole_whole _).wordExact_slice rfl _ (wordsCm d i u)).reshape _ _) ⟨⟨rfl, Or.inl rfl⟩, trivial⟩)

/-- Wait until a finished tile has been copied out. -/
def waitO (d : Fin 2) (u : Fin 8) : P F PUnit :=
  Prog.lift (.waitDma2 (outS d) (stV d) (oV d u)
    (((Memref.isWhole_whole _).wordExact_slice rfl _ (wordsBuf d)).reshape _ _)
    ((Memref.isWhole_whole _).wordExact_slice rfl _ (wordsCol d u)))

/-- The last step of a tile: the other three devices' sum has arrived; add this device's partial product, scale,
    apply the activation, and copy the tile out (once `before`, the staging buffer's last copy, is through). -/
def tileL (before : P F PUnit) (z : F .f32) (d : Fin 2) (u : Fin 8) (o : Fin 2 → ℕ)
    (ho : ∀ a, o a + S1024x1024.size a ≤ S4096x1024.size a) : P F PUnit := do
  let x : Vec F S1024x1024 .fp8e5m2 ← Prog.lift (.load x8M (rX o ho).toLoadRect (View.loadsAt_vmem h_S1024x1024))
  let w : Vec F S1024x512 .fp8e5m2 ← Prog.lift (.load w8M (rCol d u).toLoadRect (View.loadsAt_vmem h_S1024x512))
  Prog.lift (.waitDma2 (sendS d 0 u) (cV d 1 u) (cV d 0 u)
    (((Memref.isWhole_whole _).wordExact_slice rfl _ (wordsCm d 1 u)).reshape _ _)
    (((Memref.isWhole_whole _).wordExact_slice rfl _ (wordsCm d 0 u)).reshape _ _))
  Prog.lift (.waitDma2 (recvS d 1 u) (cV d 0 u) (cV d 1 u)
    (((Memref.isWhole_whole _).wordExact_slice rfl _ (wordsCm d 0 u)).reshape _ _)
    (((Memref.isWhole_whole _).wordExact_slice rfl _ (wordsCm d 1 u)).reshape _ _))
  before
  let v : Vec F S1x1x1x1024x512 .bf16 ← Prog.lift (.load cM (rCm d 1 u).toLoadRect (View.loadsAt_vmem h_S1x1x1x1024x512))
  let _ : Vec F S1x1024x512 .bf16 ← Prog.lift (.load stM (rBuf d).toLoadRect (View.loadsAt_vmem h_S1x1024x512))
  Prog.lift (.store stM (rBuf d) (k0_pay109 z (k0_pay40 x w) v) Finset.univ
    (View.stores_vmem h_S1x1024x512 ((Memref.isWhole_whole _).storeExact_slice rfl _ (packedBuf d)) (fun _ => rfl)) (.inl rfl))
  Prog.lift (.enqueueDma (stV d) (.here (oV d u)) (.dma (outS d))
    (((Memref.isWhole_whole _).wordExact_slice rfl _ (wordsBuf d)).reshape _ _)
    ((Memref.isWhole_whole _).wordExact_slice rfl _ (wordsCol d u)) ⟨Or.inl rfl, trivial⟩)

/-- Run a step over a list of tiles, then the rest. -/
def over {ι : Type} (f : ι → P F PUnit) : List ι → P F PUnit → P F PUnit
  | [], r => r
  | i :: l, r => f i >>= fun _ => over f l r

/-- The tiles 1 to 7, and 0 to 7. -/
abbrev us : List (Fin 8) := [0, 1, 2, 3, 4, 5, 6, 7]

/-- The right-hand and left-hand neighbours, as the kernel computes them. -/
abbrev rgt (c : Dev nD) : Dev nD := ⟨k0_dev2 c, k0_dev2_lt c⟩
abbrev lft (c : Dev nD) : Dev nD := ⟨k0_dev1 c, k0_dev1_lt c⟩

/-- A pair of first steps, direction 0 then 1. -/
def pairA (c : Dev nD) (u : Fin 8) : P F PUnit := do
  tileA (fetchW 1 u) (rgt c) 0 u (k0_off5 c 4294967295#32) (k0_off5_inb c 1)
  tileA (if h : u.val < 7 then fetchW 0 ⟨u.val + 1, Nat.succ_lt_succ h⟩ else pure ⟨⟩) (lft c) 1 u (k0_off5 c 1#32) (k0_off5_inb c 0)

/-- A pair of second steps. -/
def pairH0 (c : Dev nD) (u : Fin 8) : P F PUnit := do
  tileH 0 1 (lft c) (rgt c) 0 u (k0_off4 c 6#32) (k0_off4_inb c 5)
  tileH 0 1 (rgt c) (lft c) 1 u (k0_off4 c 2#32) (k0_off4_inb c 1)

/-- A pair of third steps. -/
def pairH1 (c : Dev nD) (u : Fin 8) : P F PUnit := do
  tileH 1 0 (lft c) (rgt c) 0 u (k0_off4 c 5#32) (k0_off4_inb c 4)
  tileH 1 0 (rgt c) (lft c) 1 u (k0_off4 c 3#32) (k0_off4_inb c 2)

/-- A pair of last steps; from the second pair on each waits for the copy of its buffer's previous tile. -/
def pairL (c : Dev nD) (z : F .f32) (u : Fin 8) : P F PUnit := do
  let pre (d : Fin 2) : P F PUnit := if h : 0 < u.val then waitO d ⟨u.val - 1, Nat.lt_of_le_of_lt (Nat.sub_le _ _) u.isLt⟩ else pure ⟨⟩
  tileL (pre 0) z 0 u (k0_off4 c 4#32) (k0_off4_inb c 3)
  tileL (pre 1) z 1 u (k0_off4 c 4#32) (k0_off4_inb c 3)

/-- The kernel. -/
def prog : P F PUnit := do
  let c : Dev nD ← Prog.lift .deviceId
  let a : Elt F .f32 ← smemLoad s0M (Rect.unit (s := S1) ![0] S1.size inb_S1_S1_0) numel1_S1 rfl
  let b : Elt F .f32 ← smemLoad s1M (Rect.unit (s := S1) ![0] S1.size inb_S1_S1_0) numel1_S1 rfl
  semSignalWord (lft c) barS 1#32
  semSignalWord (rgt c) barS 1#32
  semWaitWord barS 2#32
  fetchW 0 0
  xconv (k0_off1 c) (k0_off2 c) (k0_off1_inb c) (k0_off2_inb c) (k0_off2_packedfp8e5m2 c)
  xconv (k0_off3 c 1#32) (k0_off4 c 1#32) (k0_off3_inb c 0) (k0_off4_inb c 0) (k0_off4_packedfp8e5m2 c 0)
  over (pairA c) us (do
    xconv (k0_off3 c 2#32) (k0_off4 c 2#32) (k0_off3_inb c 1) (k0_off4_inb c 1) (k0_off4_packedfp8e5m2 c 1)
    over (pairH0 c) us (do
      xconv (k0_off6 c) (k0_off7 c) (k0_off6_inb c) (k0_off7_inb c) (k0_off7_packedfp8e5m2 c)
      over (pairH1 c) us (over (pairL c (k0_pay1 a b)) us (do
        waitO 0 7
        waitO 1 7))))

end Cert.KernelIdealProof
-- ==== Proof.KernelIdeal.Own.lean ====
/-
What a device holds of its buffers, a VIEW at a time: the elements of a view at contents the view reads as a given
array (`At`), or at any contents (`Some`). Loads, stores and local copies in these terms, and cutting a whole buffer
into the views of a family of rectangles and joining it again.
-/
module

public import proofs.«01_k».proof.Proof.KernelIdeal.Prog
public import Idealize.ShloMosaic.Lib.Ring

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy, the ring protocol's, and the local transfers' -/

abbrev UB : Type := URounds (GSem nD τ sig) (Fin 2)
abbrev UU : Type := UR sig nD τ × (UB × Counters)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × Counters)).trans embR
abbrev EC : UEmb Counters (MT nD τ sig ℕ (Elt F) ℕ UU ℕ) := countersEmb

abbrev 𝒱₀ : Variants := Variants.none

/-- The weakest precondition of a program of device `c`'s TensorCore. -/
abbrev WP (c : Dev nD) {α : Type} (p : P F α) (Q : α → sProp 𝕄) : sProp 𝕄 :=
  wp frame (wpE (defs₀ (F := F)) 𝒱₀ (c : Thread nD τ) none) Set.univ p Q

section Views

variable (c : Dev nD) {sp : Space} {s : Shape} {e : EltTy} (v : View sig .tc sp s e)

/-- The elements of a view, which reads them as `X`. -/
def At (X : s.Idx → Elt F e) : sProp 𝕄 :=
  iprop(∃ f, ⌜v.read (Elt F) f = X⌝ ∗ (v.loc (c : Thread nD τ) ↦[v.set]{fullShare} f))

/-- The elements of a view, at any contents. -/
def Any : sProp 𝕄 := iprop(∃ f, (v.loc (c : Thread nD τ) ↦[v.set]{fullShare} f))

instance At_storable (X : s.Idx → Elt F e) : BI.Storable (upEmb : UEmb _ 𝕄) (At c v X) := by unfold At; infer_instance
instance Any_storable : BI.Storable (upEmb : UEmb _ 𝕄) (Any (F := F) c v) := by unfold Any; infer_instance

theorem Any_of_At (X : s.Idx → Elt F e) : (At c v X : sProp 𝕄) ⊢ Any c v := by
  unfold At Any
  iintro ⟨%f, -, H⟩
  iexists f; iexact H

theorem At_intro (f : Buf (Elt F) (v.loc (c : Thread nD τ))) :
    (v.loc (c : Thread nD τ) ↦[v.set]{fullShare} f : sProp 𝕄) ⊢ At c v (v.read (Elt F) f) := by
  unfold At; iintro H; iexists f; isplitr; · (ipureintro; rfl)
  iexact H

end Views

section Steps

variable (c : Dev nD) {α : Type} {sp : CoreSpace} {s : Shape} {e : EltTy} {m : Memref sig .tc sp s e} {r : Rect s}

theorem wp_loadAt {Q : α → sProp 𝕄} {X : r.shape.Idx → Elt F e} {hl : m.view.LoadsAt r.toLoadRect} {k : (r.shape.Idx → Elt F e) → P F α} :
    At c (m.access r) X ⊢ iprop((At c (m.access r) X -∗ WP c (k X) Q) -∗ WP c (.op (.load m r.toLoadRect hl) k) Q) := by
  unfold At
  iintro ⟨%f, %hf, H⟩ Hk
  subst hf
  iapply (wp_load_rect 𝒱₀ (c : Thread nD τ) none Set.univ (Finset.Subset.refl _)) $$ H
  iintro H
  iapply Hk
  iexists f; isplitr; · (ipureintro; rfl)
  iexact H

theorem wp_loadAny {Q : α → sProp 𝕄} {hl : m.view.LoadsAt r.toLoadRect} {k : (r.shape.Idx → Elt F e) → P F α} :
    Any c (m.access r) ⊢ iprop((∀ X, Any c (m.access r) -∗ WP c (k X) Q) -∗ WP c (.op (.load m r.toLoadRect hl) k) Q) := by
  unfold Any
  iintro ⟨%f, H⟩ Hk
  iapply (wp_load_rect 𝒱₀ (c : Thread nD τ) none Set.univ (Finset.Subset.refl _)) $$ H
  iintro H
  iapply Hk
  iexists f; iexact H

theorem wp_storeAny {Q : α → sProp 𝕄} {w : r.shape.Idx → Elt F e} {hx : (m.access r).Stores Finset.univ} {hm : Finset.univ = Finset.univ ∨ ∀ a, r.stride a = 1}
    {k : PUnit → P F α} :
    Any c (m.access r) ⊢ iprop((At c (m.access r) w -∗ WP c (k ⟨⟩) Q) -∗ WP c (.op (.store m r w Finset.univ hx hm) k) Q) := by
  unfold Any At
  iintro ⟨%f, H⟩ Hk
  iapply (wp_store 𝒱₀ (c : Thread nD τ) none Set.univ (m := m) (r := r) (Mk := Finset.univ) (S := (m.access r).set) (Finset.Subset.refl _)) $$ H
  iintro H
  iapply Hk
  iexists ((m.access r).write (Elt F) f w Finset.univ); isplitr
  · ipureintro; exact View.read_write_univ _ _
  iexact H

end Steps

/-! ## Re-indexed views: what a copy between two of them moves -/

theorem read_write_reshape {sp sp' : Space} {s s' t : Shape} {e : EltTy} (v : View sig .tc sp s e) (v' : View sig .tc sp' s' e)
    (h : t.numel = s.numel) (h' : t.numel = s'.numel) (f : v.ty.Contents (Elt F)) (g : v'.ty.Contents (Elt F)) :
    v'.read (Elt F) ((v'.reshape t h').write (Elt F) g ((v.reshape t h).read (Elt F) f) Finset.univ)
      = fun i => v.read (Elt F) f (Shape.reshapeEquiv h ((Shape.reshapeEquiv h').symm i)) := by
  funext i
  have := congrFun (View.read_write_univ (Val := Elt F) (v := v'.reshape t h') g ((v.reshape t h).read (Elt F) f)) ((Shape.reshapeEquiv h').symm i)
  have h1 : (v'.reshape t h').read (Elt F) ((v'.reshape t h').write (Elt F) g ((v.reshape t h).read (Elt F) f) Finset.univ) ((Shape.reshapeEquiv h').symm i)
      = v'.read (Elt F) ((v'.reshape t h').write (Elt F) g ((v.reshape t h).read (Elt F) f) Finset.univ) i := by
    show v'.read (Elt F) _ (Shape.reshapeEquiv h' ((Shape.reshapeEquiv h').symm i)) = _
    rw [Equiv.apply_symm_apply]
  rw [← h1, this]
  rfl

/-! ## Cutting a buffer into rectangles, and joining it -/

section Cut

/-- Blocks of a buffer, each at contents with a property that only its own elements decide, join to the buffer whole
    at contents with every block's property. -/
theorem blocks_join_agree {ℓ : Loc nD τ sig} {T : Type} [Fintype T] [DecidableEq T] (I : T → Finset (Idx ℓ))
    (hd : ∀ t t', t ≠ t' → Disjoint (I t) (I t')) (hc : Finset.univ.biUnion I = Finset.univ)
    (P : T → Buf (Elt F) ℓ → Prop) (hP : ∀ t f g, P t f → (∀ i ∈ I t, g i = f i) → P t g) (f₀ : Buf (Elt F) ℓ) :
    bigSep Finset.univ (fun t => iprop(∃ f, ⌜P t f⌝ ∗ ℓ ↦[I t]{fullShare} f))
      ⊢ (iprop(∃ g, ⌜∀ t, P t g⌝ ∗ ℓ ↦{fullShare} g) : sProp 𝕄) := by
  have : Nonempty (Buf (Elt F) ℓ) := ⟨f₀⟩
  refine (Idealize.SL.BI.bigSep_exists_pi Finset.univ (fun t (f : Buf (Elt F) ℓ) => (iprop(⌜P t f⌝ ∗ ℓ ↦[I t]{fullShare} f) : sProp 𝕄))).trans ?_
  iintro ⟨%fs, H⟩
  ihave H := (bigSep_pure_sep Finset.univ (fun t => P t (fs t)) (fun t => (ℓ ↦[I t]{fullShare} fs t : sProp 𝕄))) $$ H
  icases H with ⟨%hp, H⟩
  ihave H := (pointsTo_biUnion_join Finset.univ I fs f₀ (fun b _ b' _ h => hd b b' h)) $$ H
  icases H with ⟨%g, %hg, H⟩
  iexists g
  isplitr
  · ipureintro
    exact fun t => hP t _ _ (hp t (Finset.mem_univ t)) (hg t (Finset.mem_univ t))
  · rw [hc]; iexact H

variable (c : Dev nD) (b : Ref sig .tc) {T : Type} [Fintype T] [DecidableEq T] (r : T → Rect b.ty.shape)
  (hd : ∀ t t', t ≠ t' → Disjoint (r t).set (r t').set)
  (hcov : ∀ i : b.ty.shape.Idx, ∃ t, i ∈ (r t).set)

/-- The elements of a rectangle of a buffer. -/
abbrev piece (t : T) : Finset (Idx ((c : Thread nD τ).loc b)) := ((View.whole b).slice (r t)).set

include hd in
theorem piece_disjoint (t t' : T) (h : t ≠ t') : Disjoint (piece c b r t) (piece c b r t') := by
  unfold piece; rw [View.set_slice_whole, View.set_slice_whole]; exact hd t t' h

include hcov in
theorem piece_cover : Finset.univ.biUnion (piece c b r) = Finset.univ := by
  refine Finset.eq_univ_of_forall fun i => ?_
  obtain ⟨t, ht⟩ := hcov i
  refine Finset.mem_biUnion.mpr ⟨t, Finset.mem_univ t, ?_⟩
  unfold piece; rw [View.set_slice_whole]; exact ht

include hd hcov

theorem cut_any : (iprop(∃ f, ((c : Thread nD τ).loc b) ↦{fullShare} f) : sProp 𝕄)
    ⊢ bigSep Finset.univ fun t => Any (F := F) c ((View.whole b).slice (r t)) := by
  iintro ⟨%f, H⟩
  ihave H' := (Entails.of_eq (Ring.pointsTo_blocks (piece c b r) (piece_disjoint c b r hd) (piece_cover c b r hcov) f)) $$ H
  iapply (show (bigSep Finset.univ fun t => (((c : Thread nD τ).loc b) ↦[piece c b r t]{fullShare} f : sProp 𝕄))
      ⊢ bigSep Finset.univ fun t => Any (F := F) c ((View.whole b).slice (r t)) from
    bigSep_mono fun t _ => show (((c : Thread nD τ).loc b) ↦[piece c b r t]{fullShare} f : sProp 𝕄) ⊢ Any (F := F) c ((View.whole b).slice (r t)) by
      unfold Any; iintro H; iexists f; iexact H)
  iexact H'

theorem join_any (f₀ : Buf (Elt F) ((c : Thread nD τ).loc b)) : (bigSep Finset.univ fun t => Any (F := F) c ((View.whole b).slice (r t)))
    ⊢ (iprop(∃ f, ((c : Thread nD τ).loc b) ↦{fullShare} f) : sProp 𝕄) := by
  unfold Any
  exact Ring.pointsTo_blocks_join_exists (piece c b r) (piece_disjoint c b r hd) (piece_cover c b r hcov) f₀

theorem join_at (X : ∀ t, (r t).shape.Idx → Elt F b.ty.elt) (f₀ : Buf (Elt F) ((c : Thread nD τ).loc b)) :
    (bigSep Finset.univ fun t => At c ((View.whole b).slice (r t)) (X t))
      ⊢ (iprop(∃ f, ⌜∀ t, ((View.whole b).slice (r t)).read (Elt F) f = X t⌝ ∗ ((c : Thread nD τ).loc b) ↦{fullShare} f) : sProp 𝕄) := by
  unfold At
  exact blocks_join_agree (piece c b r) (piece_disjoint c b r hd) (piece_cover c b r hcov)
    (fun t f => ((View.whole b).slice (r t)).read (Elt F) f = X t)
    (fun t f g hf hg => (View.read_congr fun i hi => hg i hi).trans hf) f₀

end Cut

end Cert.KernelIdealProof
-- ==== Proof.KernelIdeal.Values.lean ====
/-
What the kernel computes, tile by tile, as functions of the launch memory: a device's rounded row chunks of `x` and
columns of `w`, the partial sums that travel around the ring, and the finished tiles.
-/
module

public import proofs.«01_k».proof.Proof.KernelIdeal.Own

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
/-- Where direction `d` sends to, and where it comes from. -/
def dst (d : Fin 2) (c : Dev nD) : Dev nD := if d = 0 then nxt c else prv c
def ups (d : Fin 2) (c : Dev nD) : Dev nD := if d = 0 then prv c else nxt c

theorem dst_ups (d : Fin 2) (c : Dev nD) : dst d (ups d c) = c := by revert d c; decide
theorem ups_dst (d : Fin 2) (c : Dev nD) : ups d (dst d c) = c := by revert d c; decide
theorem rgt_eq (c : Dev nD) : rgt c = nxt c := by revert c; decide
theorem lft_eq (c : Dev nD) : lft c = prv c := by revert c; decide

/-! ## The row chunks -/

/-- The first index of row chunk `k`. -/
def chunk (k : Fin 4) : Fin 2 → ℕ := ![1024 * k.val, 0]
theorem inbX (k : Fin 4) : ∀ a, chunk k a + S1024x1024.size a ≤ S4096x1024.size a := by revert k; decide

/-- The chunk the partial sum of hop `h` in direction `d` adds on device `c`: for the devices three, two and one steps
    further on in that direction. -/
def chunkAt (h : Fin 3) (d : Fin 2) (c : Dev nD) : Fin 4 :=
  if h = 0 then ups d c else if h = 1 then dst d (dst d c) else dst d c

/-! ## The contents -/

/-- A row chunk of a device's `x`, rounded. -/
def x8v (c : Dev nD) (k : Fin 4) : Vec F S1024x1024 .fp8e5m2 :=
  k0_pay2 ((aV (chunk k) (inbX k)).view.read (Elt F) (m ((c : Thread nD τ).loc main_arg0)))

/-- A tile's columns of a device's `w`, as fetched; -/
def wRaw (c : Dev nD) (d : Fin 2) (u : Fin 8) : Vec F S1x1024x512 .f32 :=
  fun i => (bV d u).view.read (Elt F) (m ((c : Thread nD τ).loc main_arg1))
    ((Shape.reshapeEquiv squeezes_S1x1024x512_S1024x512.numel_eq).symm i)

/-- rounded. -/
def w8v (c : Dev nD) (d : Fin 2) (u : Fin 8) : Vec F S1024x512 .fp8e5m2 := k0_pay4 (wRaw m c d u)

/-- A device's own product for a tile, of row chunk `k`. -/
def prodv (c : Dev nD) (k : Fin 4) (d : Fin 2) (u : Fin 8) : Vec F S1024x512 .f32 := k0_pay40 (x8v m c k) (w8v m c d u)

/-- The partial sum device `c` sends on: its own product alone, then added to what came in. -/
def sum0 (c : Dev nD) (d : Fin 2) (u : Fin 8) : Vec F S1x1x1x1024x512 .bf16 := k0_pay5 (x8v m c (chunkAt 0 d c)) (w8v m c d u)
def sum1 (c : Dev nD) (d : Fin 2) (u : Fin 8) : Vec F S1x1x1x1024x512 .bf16 :=
  k0_pay41 (prodv m c (chunkAt 1 d c) d u) (sum0 m (ups d c) d u)
def sum2 (c : Dev nD) (d : Fin 2) (u : Fin 8) : Vec F S1x1x1x1024x512 .bf16 :=
  k0_pay41 (prodv m c (chunkAt 2 d c) d u) (sum1 m (ups d c) d u)
def sumv (h : Fin 3) (c : Dev nD) (d : Fin 2) (u : Fin 8) : Vec F S1x1x1x1024x512 .bf16 :=
  if h = 0 then sum0 m c d u else if h = 1 then sum1 m c d u else sum2 m c d u

theorem sumv_succ (h : Fin 2) (c : Dev nD) (d : Fin 2) (u : Fin 8) :
    sumv m h.succ c d u = k0_pay41 (prodv m c (chunkAt h.succ d c) d u) (sumv m h.castSucc (ups d c) d u) := by
  fin_cases h <;> rfl

/-- The one index of a scale. -/
def zero1 : S1.Idx := fun a => ⟨0, by revert a; decide⟩

/-- A scale, as the kernel reads it out of its staging buffer. -/
def sc0 (c : Dev nD) : Elt F .f32 := (m ((c : Thread nD τ).loc main_arg2) : Vec F S1 .f32) zero1
def sc1 (c : Dev nD) : Elt F .f32 := (m ((c : Thread nD τ).loc main_arg3) : Vec F S1 .f32) zero1

/-- A finished tile. -/
def outv (c : Dev nD) (d : Fin 2) (u : Fin 8) : Vec F S1x1024x512 .bf16 :=
  k0_pay109 (k0_pay1 (sc0 m c) (sc1 m c)) (prodv m c c d u) (sumv m 2 (ups d c) d u)

/-- The finished tile as it lies in the result. -/
def outTile (c : Dev nD) (d : Fin 2) (u : Fin 8) : Vec F S1024x512 .bf16 :=
  fun j => outv m c d u (Shape.reshapeEquiv squeezes_S1x1024x512_S1024x512.numel_eq j)

end Cert.KernelIdealProof
-- ==== Proof.KernelIdeal.Sched.lean ====
/-
The protocol. Per device: its barrier cell, and for every tile two send cells and two receive cells (one per slot of
the tile's communication buffer) and a credit cell. A cell goes by rounds, and a round's payload says what the
transfer or signal that pays it hands over: a send its source slot back, a receive the partial sum that has arrived,
the barrier and the credits a slot of the neighbour's to send into.
-/
module

public import proofs.«01_k».proof.Proof.KernelIdeal.Values

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The kinds of cells -/

/-- What a semaphore is for. -/
inductive Cell
  | bar | send (d j : Fin 2) (u : Fin 8) | recv (d j : Fin 2) (u : Fin 8) | cred (d : Fin 2) (u : Fin 8) | other
deriving DecidableEq

set_option backward.proofsInPublic true in
/-- Read off its number. -/
def kind : SemLoc sig → Cell
  | .reg s => if s.val = 16 then .bar else .cred ⟨s.val / 8 % 2, Nat.mod_lt _ (by decide)⟩ ⟨s.val % 8, Nat.mod_lt _ (by decide)⟩
  | .dma s =>
    if s.val < 2 then .other
    else if s.val < 34 then
      .send ⟨(s.val - 2) / 16 % 2, Nat.mod_lt _ (by decide)⟩ ⟨(s.val - 2) / 8 % 2, Nat.mod_lt _ (by decide)⟩ ⟨(s.val - 2) % 8, Nat.mod_lt _ (by decide)⟩
    else if s.val < 66 then
      .recv ⟨(s.val - 34) / 16 % 2, Nat.mod_lt _ (by decide)⟩ ⟨(s.val - 34) / 8 % 2, Nat.mod_lt _ (by decide)⟩ ⟨(s.val - 34) % 8, Nat.mod_lt _ (by decide)⟩
    else .other

theorem kind_bar : kind (.reg barS) = .bar := by decide
theorem kind_cred (d : Fin 2) (u : Fin 8) : kind (.reg (credS d u)) = .cred d u := by revert d u; decide
set_option maxRecDepth 4000 in
theorem kind_send (d j : Fin 2) (u : Fin 8) : kind (.dma (sendS d j u)) = .send d j u := by revert d j u; decide
set_option maxRecDepth 4000 in
theorem kind_recv (d j : Fin 2) (u : Fin 8) : kind (.dma (recvS d j u)) = .recv d j u := by revert d j u; decide

abbrev barC (c : Dev nD) : GSem nD τ sig := ((c : Thread nD τ), .reg barS)
abbrev sendC (c : Dev nD) (d j : Fin 2) (u : Fin 8) : GSem nD τ sig := ((c : Thread nD τ), .dma (sendS d j u))
abbrev recvC (c : Dev nD) (d j : Fin 2) (u : Fin 8) : GSem nD τ sig := ((c : Thread nD τ), .dma (recvS d j u))
abbrev credC (c : Dev nD) (d : Fin 2) (u : Fin 8) : GSem nD τ sig := ((c : Thread nD τ), .reg (credS d u))

/-- A slot of the communication buffer. -/
abbrev slot (d j : Fin 2) (u : Fin 8) : View sig .tc .vmem S1x1x1x1024x512 .bf16 := cM.access (rCm d j u)

/-- The bytes of a transfer, as its semaphores count them. -/
abbrev N : ℕ := (cV 0 0 0).view.dmaCredit
theorem N_pos : 0 < N := View.dmaCredit_pos _ (by decide)
theorem credit_eq (d j : Fin 2) (u : Fin 8) : (cV d j u).view.dmaCredit = N := rfl

/-! ## The schedule -/

/-- The hop that round `r` of slot `j`'s receive cell brings. -/
def hopOf (j : Fin 2) (r : ℕ) : Fin 3 := if r = 0 then (if j = 1 then 0 else 1) else 2

/-- How many rounds a cell goes. -/
def rounds : Cell → ℕ
  | .bar => 1
  | .send _ j _ => if j = 0 then 2 else 1
  | .recv _ j _ => if j = 1 then 2 else 1
  | .cred _ _ => 2
  | .other => 0

/-- The duties of a round: the barrier's from the two neighbours, otherwise one. -/
def dutiesOf : Cell → Finset (Fin 2)
  | .bar => Finset.univ
  | _ => {0}

def amountOf : Cell → ℕ
  | .bar => 1
  | .cred _ _ => 1
  | _ => N

/-- The slot a credit's round `r` frees. -/
def slotOf (r : ℕ) : Fin 2 := if r = 0 then 0 else 1

/-- What the payments of device `c`'s cells hand it. -/
def payOf (c : Dev nD) (r : ℕ) (dt : Fin 2) : Cell → sProp 𝕄
  | .bar => bigSep Finset.univ fun u : Fin 8 => Any (F := F) (dst dt c) (slot dt 1 u)
  | .send d j u => Any (F := F) c (slot d j u)
  | .recv d j u => iprop(At c (slot d j u) (sumv m (hopOf j r) (ups d c) d u) ∗ reached ER (credC (ups d c) d u) (hopOf j r).val)
  | .cred d u => iprop(Any (F := F) (dst d c) (slot d (slotOf r) u) ∗ reached ER (recvC (dst d c) d (slotOf r) u) r)
  | .other => iprop(emp)

def sched : Rounds.Schedule (GSem nD τ sig) (Fin 2) 𝕄 where
  duties g r := if g.1.2 = .tc ∧ r < rounds (kind g.2) then dutiesOf (kind g.2) else ∅
  unitless _ := False
  amount g _ _ := amountOf (kind g.2)
  payload g r d := payOf m g.1.1 r d (kind g.2)
  amount_pos g _ _ _ := by
    unfold amountOf
    split
    · exact Nat.one_pos
    · exact Nat.one_pos
    · exact N_pos

instance sched_storable (g : GSem nD τ sig) (r : ℕ) (d : Fin 2) :
    BI.Storable (upEmb : UEmb _ 𝕄) ((sched (F := F) m).payload g r d) := by
  show BI.Storable upEmb (payOf m g.1.1 r d (kind g.2))
  unfold payOf
  split <;> infer_instance

section Facts
variable (c : Dev nD) (d j : Fin 2) (u : Fin 8)

theorem duties_of {sm : SemLoc sig} {k : Cell} (hk : kind sm = k) {r : ℕ} (hr : r < rounds k) :
    (sched (F := F) m).duties ((c : Thread nD τ), sm) r = dutiesOf k := by
  subst hk; exact if_pos ⟨rfl, hr⟩
theorem duties_none {sm : SemLoc sig} {k : Cell} (hk : kind sm = k) : ∀ r, rounds k ≤ r →
    (sched (F := F) m).duties ((c : Thread nD τ), sm) r = ∅ := by
  subst hk; exact fun r hr => if_neg fun h => Nat.not_lt.mpr hr h.2
theorem amount_of {sm : SemLoc sig} {k : Cell} (hk : kind sm = k) (r : ℕ) (dt : Fin 2) :
    (sched (F := F) m).amount ((c : Thread nD τ), sm) r dt = amountOf k := by subst hk; rfl
theorem payload_of {sm : SemLoc sig} {k : Cell} (hk : kind sm = k) (r : ℕ) (dt : Fin 2) :
    (sched (F := F) m).payload ((c : Thread nD τ), sm) r dt = payOf m c r dt k := by subst hk; rfl

/-- A cell with one duty expects its amount, and its round's payloads are the one payload. -/
theorem expect_one {sm : SemLoc sig} {k : Cell} (hk : kind sm = k) {r : ℕ} (hr : r < rounds k) (h1 : dutiesOf k = {0}) :
    (sched (F := F) m).expect ((c : Thread nD τ), sm) r = amountOf k := by
  unfold Schedule.expect Schedule.amountOf
  rw [duties_of m c hk hr, h1, Finset.sum_singleton, amount_of m c hk]
theorem rest_one {sm : SemLoc sig} {k : Cell} (hk : kind sm = k) {r : ℕ} (hr : r < rounds k) (h1 : dutiesOf k = {0}) :
    bigSep ((sched (F := F) m).duties ((c : Thread nD τ), sm) r \ ∅) (fun dt => (sched (F := F) m).payload ((c : Thread nD τ), sm) r dt)
      = payOf m c r 0 k := by
  rw [Finset.sdiff_empty, duties_of m c hk hr, h1, bigSep_singleton, payload_of m c hk]
theorem expect_bar : (sched (F := F) m).expect (barC c) 0 = 2 := by
  unfold Schedule.expect Schedule.amountOf
  rw [duties_of m c kind_bar (by decide), Finset.sum_congr rfl fun dt _ => amount_of m c kind_bar 0 dt]
  rfl
theorem rest_bar :
    bigSep ((sched (F := F) m).duties (barC c) 0 \ ∅) (fun dt => (sched (F := F) m).payload (barC c) 0 dt)
      = iprop((bigSep Finset.univ fun u : Fin 8 => Any (F := F) (dst 0 c) (slot 0 1 u)) ∗ bigSep Finset.univ fun u : Fin 8 => Any (F := F) (dst 1 c) (slot 1 1 u)) := by
  rw [Finset.sdiff_empty, duties_of m c kind_bar (by decide), dutiesOf, bigSep_univ_eq_bigSepL [0, 1] (by decide) (by decide), bigSepL_cons_cons,
    bigSepL_singleton, payload_of m c kind_bar, payload_of m c kind_bar]
  rfl

end Facts

/-! ## What a device owes, in the order it pays -/

/-- A payment: a signal to a neighbour's barrier, a hop's transfer, a credit. -/
inductive Ev
  | bar (d : Fin 2) | recv (h : Fin 3) (d : Fin 2) (u : Fin 8) | cred (h d : Fin 2) (u : Fin 8)

/-- The slot hop `h` arrives in, and the round of its receive cell. -/
def slotIn (h : Fin 3) : Fin 2 := if h = 1 then 0 else 1
def roundIn (h : Fin 3) : ℕ := if h = 2 then 1 else 0

def Ev.tgt (c : Dev nD) : Ev → Dev nD
  | .bar d => ups d c
  | .recv _ d _ => dst d c
  | .cred _ d _ => ups d c
def Ev.sem : Ev → SemLoc sig
  | .bar _ => .reg barS
  | .recv h d u => .dma (recvS d (slotIn h) u)
  | .cred _ d u => .reg (credS d u)
def Ev.ix : Ev → ℕ
  | .bar _ => 0
  | .recv h _ _ => roundIn h
  | .cred h _ _ => h.val
def Ev.amt : Ev → ℕ
  | .bar _ => 1
  | .recv _ _ _ => N
  | .cred _ _ _ => 1
def Ev.lev : Ev → ℕ
  | .bar _ => 1
  | .recv h _ _ => 2 + 32 * h.val
  | .cred h d u => 3 + 32 * h.val + (2 * u.val + d.val)

abbrev Ev.cell (e : Ev) (c : Dev nD) : GSem nD τ sig := ((e.tgt c : Thread nD τ), e.sem)

/-- What device `c` owes while the payments `l` are ahead of it. -/
def owed (c : Dev nD) : List Ev → CellTallies nD τ sig ℕ
  | [] => 0
  | e :: l => owed c l + tallyAt (e.cell c) e.ix e.amt

def L (g : GSem nD τ sig) : Finset ℕ := if g.1.2 = .tc then {0, 1} else ∅
def levOf : Cell → ℕ → ℕ
  | .bar, _ => 1
  | .send _ _ _, _ => 0
  | .recv _ j _, r => 2 + 32 * (hopOf j r).val
  | .cred d u, r => 3 + 32 * r + (2 * u.val + d.val)
  | .other, _ => 0
def lv (g : GSem nD τ sig) (r : ℕ) : ℕ := levOf (kind g.2) r

theorem L_of_ne (g : GSem nD τ sig) (h : g.1.2 ≠ .tc) : L g = ∅ := if_neg h
theorem L_tc (c : Dev nD) (sm : SemLoc sig) : L ((c : Thread nD τ), sm) = {0, 1} := if_pos rfl

theorem lv_ev (e : Ev) (c : Dev nD) : lv (e.cell c) e.ix = e.lev := by
  unfold lv
  cases e with
  | bar d => exact congrArg (fun k => levOf k 0) kind_bar
  | recv h d u => exact (congrArg (fun k => levOf k (roundIn h)) (kind_recv d (slotIn h) u)).trans (by fin_cases h <;> rfl)
  | cred h d u => exact congrArg (fun k => levOf k h.val) (kind_cred d u)
theorem ix_mem (e : Ev) : e.ix ∈ ({0, 1} : Finset ℕ) := by
  cases e with
  | bar d => show (0 : ℕ) ∈ _; decide
  | recv h d u => show roundIn h ∈ _; revert h; decide
  | cred h d u => show h.val ∈ _; revert h; decide

theorem owed_pos {c : Dev nD} {l : List Ev} {g : GSem nD τ sig} {i : ℕ} (h : 0 < owed c l g i) : ∃ e ∈ l, g = e.cell c ∧ i = e.ix := by
  induction l with
  | nil => exact absurd h (by simp [owed])
  | cons e l ih =>
    rw [owed, Pi.add_apply, Finsupp.add_apply, tallyAt_apply] at h
    by_cases h' : g = e.cell c ∧ i = e.ix
    · exact ⟨e, List.mem_cons_self, h'⟩
    · rw [if_neg h', Nat.add_zero] at h
      obtain ⟨e', he', h''⟩ := ih h
      exact ⟨e', List.mem_cons_of_mem _ he', h''⟩

/-- A device may wait at a cell that lies below everything it still owes. -/
theorem mayWait (c : Dev nD) (sm : SemLoc sig) (i : ℕ) (hi : i ∈ ({0, 1} : Finset ℕ)) (l : List Ev)
    (hl : ∀ e ∈ l, levOf (kind sm) i < e.lev) :
    (levAts L lv : sProp 𝕄) ⊢ MayWait (c : Thread nD τ) sm i (owed c l) :=
  MayOwe.of_cut (L := L) (lev := lv) (levOf (kind sm) i) (fun p hp => by rw [Finset.mem_singleton.mp hp, L_tc]; exact hi)
    (fun g u hg => by obtain ⟨e, -, rfl, rfl⟩ := owed_pos hg; rw [L_tc]; exact ix_mem e)
    (fun p hp => by rw [Finset.mem_singleton.mp hp]; exact Nat.le_refl _)
    (fun g u hg => by obtain ⟨e, he, rfl, rfl⟩ := owed_pos hg; rw [lv_ev]; exact hl e he)

theorem lev_pos (e : Ev) : 0 < e.lev := by cases e <;> simp only [Ev.lev] <;> omega

/-- At a cell of level zero, always. -/
theorem mayWait_low (c : Dev nD) (sm : SemLoc sig) (h0 : levOf (kind sm) 0 = 0) (l : List Ev) :
    (levAts L lv : sProp 𝕄) ⊢ MayWait (c : Thread nD τ) sm 0 (owed c l) :=
  mayWait c sm 0 (by decide) l fun e _ => by rw [h0]; exact lev_pos e

end Cert.KernelIdealProof
-- ==== Proof.KernelIdeal.Steps.lean ====
/-
The steps of the protocol and of the local copies, each once: a signal, a wait at a cell of the schedule, a hop's
transfer, and the three kinds of local copies.
-/
module

public import proofs.«01_k».proof.Proof.KernelIdeal.Sched
public import Idealize.ShloMosaic.Lib.Transfers

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Transfers (Flight)

local notation "𝕄" => MT nD τ sig ℕ (Elt F) ℕ UU ℕ

variable (m : (ℓ : Loc nD τ sig) → Buf (Elt F) ℓ)

/-- A cell is under the schedule. -/
def Inv (g : GSem nD τ sig) : sProp 𝕄 := iprop(∃ κ : ℕ, cellInv ER (sched m) κ g)
instance (g : GSem nD τ sig) : BI.Persistent (Inv m g : sProp 𝕄) := by unfold Inv; infer_instance

/-- What device `c` owes, whatever it has waited for. -/
def OW (c : Dev nD) (l : List Ev) : sProp 𝕄 := iprop(∃ W, owes (c : Thread nD τ) (owed c l) W)

section Protocol

variable (c : Dev nD) {α : Type} {Q : α → sProp 𝕄}

/-- A signal that pays duty `dt` of round `r` of a cell of device `t`. -/
theorem wp_sig {α : Type} {Q : α → sProp 𝕄} {k : PUnit → P F α} {t : Dev nD} {s : Sem sig} {kd : Cell} {r n : ℕ} {dt : Fin 2} {e : Ev} {l : List Ev}
    (hk : kind (.reg s) = kd) (hr : r < rounds kd) (hd : dt ∈ dutiesOf kd) (hn : amountOf kd = n)
    (ht : e.tgt c = t) (hs : e.sem = .reg s) (ha : e.amt = n) :
    iprop(Inv m ((t : Thread nD τ), .reg s) ∗ OW c (e :: l) ∗ dutyTok ER ((t : Thread nD τ), .reg s) r dt ∗ payOf m t r dt kd
        ∗ reached ER ((t : Thread nD τ), .reg s) r)
      ⊢ iprop((OW c l -∗ WP c (k ⟨⟩) Q) -∗ WP c (.op (.semSignal (t : Thread nD τ) s n) k) Q) := by
  unfold Inv OW
  iintro ⟨⟨%κ, #HI⟩, ⟨%W, HO⟩, Ht, Hp, #Hr⟩ Hk
  iapply (Rounds.wp_signal 𝒱₀ ER (sched m) (c : Thread nD τ) none (dst := (t : Thread nD τ)) (κ := κ) (d := dt) (r := r)
      (by rw [duties_of m t hk hr]; exact hd) ((amount_of m t hk r dt).trans hn) e.ix (O₀ := owed c (e :: l)) (owed c l)
      (by show owed c l + tallyAt (e.cell c) e.ix e.amt = _; rw [Ev.cell, ht, hs, ha])) $$ [HO Ht Hp]
  · isplitr; · iexact HI
    isplitl [HO]; · iexact HO
    isplitl [Ht]; · iexact Ht
    isplitl [Hp]; · rw [payload_of m t hk]; iexact Hp
    iexact Hr
  iintro HO
  iapply Hk
  iexists W; iexact HO

/-- A wait for a whole round of a cell with one duty. -/
theorem wp_waitCell {α : Type} {Q : α → sProp 𝕄} {k : PUnit → P F α} {w : TpuEff nD τ sig (Elt F) Λ₀ .tc PUnit} {sm : SemLoc sig} {kd : Cell} {r n : ℕ}
    {l : List Ev} (hw : ∀ K : PUnit → sProp 𝕄, wpE (defs₀ (F := F)) 𝒱₀ (c : Thread nD τ) none Set.univ w K = waitSpec (c : Thread nD τ) Set.univ sm n K)
    (hk : kind sm = kd) (hr : r < rounds kd) (hd : dutiesOf kd = {0}) (hn : n = amountOf kd) (hi : r ∈ ({0, 1} : Finset ℕ))
    (hl : ∀ e ∈ l, levOf kd r < e.lev) :
    iprop(Inv m ((c : Thread nD τ), sm) ∗ levAts L lv ∗ cred (tallyAt ((c : Thread nD τ), sm) r n) ∗ OW c l ∗ atPos ER ((c : Thread nD τ), sm) r ∅ 0)
      ⊢ iprop((iprop(OW c l ∗ atPos ER ((c : Thread nD τ), sm) (r + 1) ∅ 0 ∗ reached ER ((c : Thread nD τ), sm) (r + 1) ∗ payOf m c r 0 kd)
            -∗ WP c (k ⟨⟩) Q) -∗ WP c (.op w k) Q) := by
  unfold Inv OW
  iintro ⟨⟨%κ, #HI⟩, #HL, Hc, ⟨%W, HO⟩, Ha⟩ Hk
  iapply (Rounds.wp_wait_rest_token 𝒱₀ ER (sched m) (c : Thread nD τ) none (κ := κ) hw (Set.mem_univ _) r (O := owed c l) (W := W) (R := r) (m := 0) (T := ∅)
      (by rw [Nat.zero_add, expect_one m c hk hr hd, hn])) $$ [Hc HO Ha]
  · isplitr; · iexact HI
    isplitl [Hc]; · iexact Hc
    isplitl [HO]; · iexact HO
    isplitr
    · iapply (mayWait c sm r hi l (by rw [hk]; exact hl)); iexact HL
    iexact Ha
  iintro ⟨HO, Ha, #Hr, Hp⟩
  ihave Hp := (Entails.of_eq (rest_one m c hk hr hd)) $$ Hp
  iapply Hk
  isplitl [HO]; · iexists _; iexact HO
  isplitl [Ha]; · iexact Ha
  isplitr; · iexact Hr
  iexact Hp

theorem roundIn_lt (h : Fin 3) (d : Fin 2) (u : Fin 8) : roundIn h < rounds (.recv d (slotIn h) u) := by
  show roundIn h < if slotIn h = 1 then 2 else 1
  revert h; decide
theorem hopOf_in (h : Fin 3) : hopOf (slotIn h) (roundIn h) = h := by revert h; decide

/-- A hop: the partial sum in slot `j` goes to slot `i` of the next device in direction `d`, which gets with it that this
    device's credit cell has come to the round of the hop. -/
theorem wp_hop {α : Type} {Q : α → sProp 𝕄} {k : PUnit → P F α} (h : Fin 3) (d i j : Fin 2) (u : Fin 8) (rs : ℕ) (t : Dev nD) {l : List Ev}
    {hsc : (cV d i u).view.ref.isScScratch = false}
    {h₁ : (cV d j u).view.WordExact} {h₂ : (cV d i u).view.WordExact} {h₃ : DmaTarget.Typed Space.vmem (.dma (recvS d i u)) (.remote (Dev.tc t : Thread nD τ) (cV d i u) (.dma (sendS d j u)) hsc)}
    (ht : dst d c = t) (hi : slotIn h = i) (hrs : rs < rounds (.send d j u)) :
    iprop(Inv m (sendC c d j u) ∗ Inv m (recvC t d i u) ∗ At c (slot d j u) (sumv m h c d u) ∗ Any (F := F) t (slot d i u) ∗ OW c (.recv h d u :: l)
        ∗ dutyTok ER (sendC c d j u) rs 0 ∗ reached ER (sendC c d j u) rs ∗ dutyTok ER (recvC t d i u) (roundIn h) 0 ∗ reached ER (recvC t d i u) (roundIn h)
        ∗ reached ER (credC c d u) h.val)
      ⊢ iprop((iprop(cred (tallyAt (sendC c d j u) rs N) ∗ OW c l) -∗ WP c (k ⟨⟩) Q)
          -∗ WP c (.op (.enqueueDma (cV d j u) (.remote (Dev.tc t : Thread nD τ) (cV d i u) (.dma (sendS d j u)) hsc) (.dma (recvS d i u)) h₁ h₂ h₃) k) Q) := by
  subst ht; subst hi
  have hrr := roundIn_lt h d u
  have hh := hopOf_in h
  unfold Inv OW At Any
  iintro ⟨⟨%κ₁, #HI₁⟩, ⟨%κ₂, #HI₂⟩, ⟨%fs, %hf, Hs⟩, ⟨%fd, Hd⟩, ⟨%W, HO⟩, Ht₁, #Hr₁, Ht₂, #Hr₂, #Hrc⟩ Hk
  iapply (Rounds.wp_send_pointsTo_with 𝒱₀ ER (sched m) (c : Thread nD τ) none (c' := (dst d c : Thread nD τ)) (src := cV d j u) (dst := cV d (slotIn h) u) (q := fullShare)
      (κ₁ := κ₁) (κ₂ := κ₂) (r₁ := rs) (r₂ := roundIn h) (d₁ := 0) (d₂ := 0) (fs := fs) (fd := fd) (F := iprop(reached ER (credC c d u) h.val))
      (by rw [duties_of m c (kind_send d j u) hrs]; exact Finset.mem_singleton_self _)
      (by rw [duties_of m (dst d c) (kind_recv d (slotIn h) u) hrr]; exact Finset.mem_singleton_self _)
      (roundIn h) rs N rfl (amount_of m c (kind_send d j u) rs 0) (amount_of m (dst d c) (kind_recv d (slotIn h) u) (roundIn h) 0) (owed c l)
      rfl (W := W)
      (by
        rw [payload_of m c (kind_send d j u)]
        show _ ⊢ Any (F := F) c (slot d j u)
        unfold Any
        iintro H; iexists fs; rw [View.set_reshape]; iexact H)
      (by
        rw [payload_of m (dst d c) (kind_recv d (slotIn h) u)]
        show _ ⊢ iprop(At (dst d c) (slot d (slotIn h) u) (sumv m (hopOf (slotIn h) (roundIn h)) (ups d (dst d c)) d u) ∗ reached ER (credC (ups d (dst d c)) d u) (hopOf (slotIn h) (roundIn h)).val)
        rw [hh, ups_dst]
        unfold At
        iintro ⟨H, Hc⟩
        isplitl [H]
        · iexists _
          isplitr
          rotate_left
          · rw [View.set_reshape]; iexact H
          · ipureintro
            refine (read_write_reshape (slot d j u) (slot d (slotIn h) u) _ _ fs fd).trans ?_
            funext x
            rw [Equiv.apply_symm_apply, hf]
        · iexact Hc)) $$ [Hs Hd HO Ht₁ Ht₂]
  · isplitr; · iexact HI₁
    isplitr; · iexact HI₂
    isplitl [Hs]; · rw [View.set_reshape]; iexact Hs
    isplitl [Hd]
    · isplitl [Hd]; · rw [View.set_reshape]; iexact Hd
      iexact Hrc
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

/-- A cell whose rounds are all through gives its semaphore back at zero. -/
theorem close {sm : SemLoc sig} {kd : Cell} {r : ℕ} (hk : kind sm = kd) (hr : rounds kd ≤ r) :
    iprop(Inv m ((c : Thread nD τ), sm) ∗ atPos ER ((c : Thread nD τ), sm) r ∅ 0) ⊢ (iprop(|={Set.univ}=> semVal ((c : Thread nD τ), sm) 0) : sProp 𝕄) := by
  unfold Inv
  iintro ⟨⟨%κ, #HI⟩, Ha⟩
  iapply (Rounds.cell_close ER (sched m) (Set.mem_univ κ) (fun h => h) (R := r) fun r' h => duties_none m c hk r' (Nat.le_trans hr h))
  isplitr; · iexact HI
  iexact Ha

end Protocol

section Local

variable (c : Dev nD)

/-- Start a local copy. -/
theorem wp_start {α : Type} {Q : α → sProp 𝕄} {sp sp' : Space} {s : Shape} {e : EltTy} {src : Memref sig .tc sp s e} {dst : Memref sig .tc sp' s e} {sm : DmaSem sig}
    {hsrc : src.view.WordExact} {hdst : dst.view.WordExact} {hsem : DmaTarget.Typed (nD := nD) (p := (Proc.tc : Proc τ)) sp (.dma sm) (.here dst)}
    {k : PUnit → P F α} {fs : Buf (Elt F) (src.view.loc (c : Thread nD τ))} {fd : Buf (Elt F) (dst.view.loc (c : Thread nD τ))}
    {D : sProp 𝕄} (hN : 0 < dst.view.dmaCredit)
    (hD : iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ D) :
    iprop((src.view.loc (c : Thread nD τ) ↦[src.view.set]{fullShare} fs) ∗ (dst.view.loc (c : Thread nD τ) ↦[dst.view.set]{fullShare} fd)
        ∗ semVal ((c : Thread nD τ), .dma sm) 0)
      ⊢ iprop((Flight EC (c : Thread nD τ) (.dma sm) 0 dst.view.dmaCredit D -∗ WP c (k ⟨⟩) Q)
          -∗ WP c (.op (.enqueueDma src (.here dst) (.dma sm) hsrc hdst hsem) k) Q) := by
  iintro H Hk
  iapply (Transfers.wp_dmaLocal EC 𝒱₀ (c : Thread nD τ) none (src := src) (dst := dst) (sm := .dma sm) (q := fullShare) (fs := fs) (fd := fd) 0 dst.view.dmaCredit rfl hN
    (Finset.Subset.refl _)) $$ H
  iintro Hf
  iapply Hk
  iapply (Transfers.Flight_mono EC (c : Thread nD τ) hD) $$ Hf

/-- Wait for it. -/
theorem wp_land {α : Type} {Q : α → sProp 𝕄} {sp sp' : Space} {s : Shape} {e : EltTy} {src : Memref sig .tc sp s e} {dst : Memref sig .tc sp' s e} {sm : DmaSem sig}
    {hsrc : src.view.WordExact} {hdst : dst.view.WordExact} {k : PUnit → P F α} {D : sProp 𝕄} {l : List Ev} (h0 : levOf (kind (.dma sm)) 0 = 0) :
    iprop(levAts L lv ∗ Flight EC (c : Thread nD τ) (.dma sm) 0 dst.view.dmaCredit D ∗ OW c l)
      ⊢ iprop((iprop(D ∗ semVal ((c : Thread nD τ), .dma sm) 0 ∗ OW c l) -∗ WP c (k ⟨⟩) Q)
          -∗ WP c (.op (.waitDma2 sm src dst hsrc hdst) k) Q) := by
  unfold OW
  iintro ⟨#HL, Hf, ⟨%W, HO⟩⟩ Hk
  iapply (Transfers.wp_waitLocalO EC 𝒱₀ (c : Thread nD τ) none 0 rfl (O := owed c l) (W := W) (D := D)) $$ [Hf HO]
  · isplitl [Hf]; · iexact Hf
    isplitl [HO]; · iexact HO
    iapply (mayWait_low c (.dma sm) h0 l); iexact HL
  iintro ⟨HD, Hs, HO⟩
  iapply Hk
  isplitl [HD]; · iexact HD
  isplitl [Hs]; · iexact Hs
  iexists _; iexact HO

end Local

end Cert.KernelIdealProof
-- ==== Proof.KernelIdeal.Tiles.lean ====
/-
The kernel's steps, each once: the fetches, the conversion of a row chunk, and a tile's first, middle and last steps.
-/
module

public import proofs.«01_k».proof.Proof.KernelIdeal.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Transfers (Flight)

local notation "𝕄" => MT nD τ sig ℕ (Elt F) ℕ UU ℕ

variable (m : (ℓ : Loc nD τ sig) → Buf (Elt F) ℓ)

/-! ## What every device knows -/

/-- A device's cells: its barrier's, its sends', its receives', its credits'. -/
abbrev CI : Type := Unit ⊕ (Fin 2 × Fin 2 × Fin 8) ⊕ (Fin 2 × Fin 2 × Fin 8) ⊕ (Fin 2 × Fin 8)

set_option synthInstance.maxSize 1000 in
instance : DecidableEq (Dev nD × CI) := inferInstance

def ksem : CI → SemLoc sig
  | .inl _ => .reg barS
  | .inr (.inl t) => .dma (sendS t.1 t.2.1 t.2.2)
  | .inr (.inr (.inl t)) => .dma (recvS t.1 t.2.1 t.2.2)
  | .inr (.inr (.inr t)) => .reg (credS t.1 t.2)

abbrev kcell (ck : Dev nD × CI) : GSem nD τ sig := ((ck.1 : Thread nD τ), ksem ck.2)

/-- The levels, that every cell is under the schedule, and that its round 0 is reached. -/
def Know : sProp 𝕄 :=
  iprop(levAts L lv ∗ (bigSep Finset.univ fun ck : Dev nD × CI => Inv m (kcell ck)) ∗ bigSep Finset.univ fun ck : Dev nD × CI => reached ER (kcell ck) 0)

instance : BI.Persistent (Know m : sProp 𝕄) := by unfold Know; infer_instance

theorem know_lev : (Know m : sProp 𝕄) ⊢ levAts L lv := by unfold Know; iintro ⟨#H, -, -⟩; iexact H
theorem know_at (ck : Dev nD × CI) : (Know m : sProp 𝕄) ⊢ iprop(Inv m (kcell ck) ∗ reached ER (kcell ck) 0) := by
  unfold Know
  iintro ⟨-, #HI, #HR⟩
  isplitr
  · iapply (show (bigSep Finset.univ fun ck : Dev nD × CI => (Inv m (kcell ck) : sProp 𝕄)) ⊢ Inv m (kcell ck) from bigSep_elim (Finset.mem_univ ck)); iexact HI
  · iapply (show (bigSep Finset.univ fun ck : Dev nD × CI => (reached ER (kcell ck) 0 : sProp 𝕄)) ⊢ reached ER (kcell ck) 0 from bigSep_elim (Finset.mem_univ ck)); iexact HR
theorem know_bar (c : Dev nD) : (Know m : sProp 𝕄) ⊢ iprop(Inv m (barC c) ∗ reached ER (barC c) 0) := know_at m (c, .inl ())
theorem know_send (c : Dev nD) (d j : Fin 2) (u : Fin 8) : (Know m : sProp 𝕄) ⊢ iprop(Inv m (sendC c d j u) ∗ reached ER (sendC c d j u) 0) :=
  know_at m (c, .inr (.inl (d, j, u)))
theorem know_recv (c : Dev nD) (d j : Fin 2) (u : Fin 8) : (Know m : sProp 𝕄) ⊢ iprop(Inv m (recvC c d j u) ∗ reached ER (recvC c d j u) 0) :=
  know_at m (c, .inr (.inr (.inl (d, j, u))))
theorem know_cred (c : Dev nD) (d : Fin 2) (u : Fin 8) : (Know m : sProp 𝕄) ⊢ iprop(Inv m (credC c d u) ∗ reached ER (credC c d u) 0) :=
  know_at m (c, .inr (.inr (.inr (d, u))))

theorem WP_ret (c : Dev nD) {α : Type} {a : α} {Q : α → sProp 𝕄} : Q a ⊢ WP c (Prog.ret a : P F α) Q := by
  show _ ⊢ wp _ _ _ _ _
  rw [wp_ret]; iintro H; imodintro; iexact H
theorem WP_bind (c : Dev nD) {α β : Type} {p : P F α} {k : α → P F β} {Q : β → sProp 𝕄} :
    WP c p (fun a => WP c (k a) Q) ⊢ WP c (p >>= k) Q := Entails.of_eq (wp_bind ..).symm

/-! ## The fetches of `w` -/

/-- A tile's columns of `w`. -/
def wPc (c : Dev nD) (d : Fin 2) (u : Fin 8) : sProp 𝕄 :=
  ((bV d u).view.loc (c : Thread nD τ) ↦[(bV d u).view.set]{fullShare} m ((c : Thread nD τ).loc main_arg1))
/-- A fetch buffer with no fetch under way, -/
def FreeW (c : Dev nD) (d : Fin 2) : sProp 𝕄 := iprop(Any (F := F) c (wsM.access (rBuf d)) ∗ semVal ((c : Thread nD τ), .dma (wsS d)) 0)
/-- and with one. -/
def FlyW (c : Dev nD) (d : Fin 2) (u : Fin 8) : sProp 𝕄 :=
  Flight EC (c : Thread nD τ) (.dma (wsS d)) 0 (wsV d).view.dmaCredit iprop(At c (wsM.access (rBuf d)) (wRaw m c d u) ∗ wPc m c d u)

/-- What a copy into a re-indexed view leaves. -/
theorem read_write_into {sp' : Space} {s' t : Shape} {e : EltTy} (v' : View sig .tc sp' s' e) (h' : t.numel = s'.numel)
    (w : t.Idx → Elt F e) (g : v'.ty.Contents (Elt F)) :
    v'.read (Elt F) ((v'.reshape t h').write (Elt F) g w Finset.univ) = fun i => w ((Shape.reshapeEquiv h').symm i) := by
  funext i
  have := congrFun (View.read_write_univ (Val := Elt F) (v := v'.reshape t h') g w) ((Shape.reshapeEquiv h').symm i)
  rw [← this]
  show _ = v'.read (Elt F) _ (Shape.reshapeEquiv h' ((Shape.reshapeEquiv h').symm i))
  rw [Equiv.apply_symm_apply]

theorem low_w (d : Fin 2) : levOf (kind (.dma (wsS d))) 0 = 0 := by revert d; decide
theorem low_o (d : Fin 2) : levOf (kind (.dma (outS d))) 0 = 0 := by revert d; decide

theorem wp_fetchW (c : Dev nD) (d : Fin 2) (u : Fin 8) {Q : PUnit → sProp 𝕄} :
    iprop(FreeW (F := F) c d ∗ wPc m c d u) ⊢ iprop((FlyW m c d u -∗ Q ⟨⟩) -∗ WP c (fetchW d u) Q) := by
  unfold FreeW FlyW wPc Any
  simp only [fetchW, Prog.lift]
  iintro ⟨⟨⟨%fd, Hd⟩, Hs⟩, Hw⟩ Hk
  iapply (wp_start c (src := bV d u) (dst := wsV d) (fs := m ((c : Thread nD τ).loc main_arg1)) (fd := fd) (View.dmaCredit_pos _ (by decide))
    (D := iprop(At c (wsM.access (rBuf d)) (wRaw m c d u) ∗ ((bV d u).view.loc (c : Thread nD τ) ↦[(bV d u).view.set]{fullShare} m ((c : Thread nD τ).loc main_arg1))))
    (by
      unfold At
      iintro ⟨H, Hw⟩
      isplitl [H]
      · iexists _
        isplitr
        rotate_left
        · rw [View.set_reshape]; iexact H
        · ipureintro
          exact read_write_into (wsM.access (rBuf d)) _ _ fd
      · iexact Hw)) $$ [Hd Hs Hw]
  · isplitl [Hw]; · iexact Hw
    isplitl [Hd]; · rw [View.set_reshape]; iexact Hd
    iexact Hs
  iintro Hf
  iapply (WP_ret c)
  iapply Hk $$ Hf

/-! ## A row chunk -/

/-- A row chunk of `x`, as it came. -/
def xPc (c : Dev nD) (k : Fin 4) : sProp 𝕄 :=
  ((aV (chunk k) (inbX k)).view.loc (c : Thread nD τ) ↦[(aV (chunk k) (inbX k)).view.set]{fullShare} m ((c : Thread nD τ).loc main_arg0))
/-- Where it is kept rounded. -/
abbrev x8P (k : Fin 4) : View sig .tc .vmem S1024x1024 .fp8e5m2 := x8M.access (rX (chunk k) (inbX k))
abbrev w8P (d : Fin 2) (u : Fin 8) : View sig .tc .vmem S1024x512 .fp8e5m2 := w8M.access (rCol d u)
/-- The buffer it is fetched to. -/
def FreeX (c : Dev nD) : sProp 𝕄 := iprop(Any (F := F) c xsM.view ∗ semVal ((c : Thread nD τ), .dma xsS) 0)

theorem set_unit_zero (b : Ref sig .tc) {off : Fin b.ty.shape.rank → ℕ} (h : off = fun _ => 0) (inb : ∀ a, off a + b.ty.shape.size a ≤ b.ty.shape.size a) :
    ((Memref.whole b).access (Rect.unit off b.ty.shape.size inb) : View sig .tc _ _ _).set = Finset.univ := by
  subst h; exact Memref.set_access_whole b
theorem set_rXs : (xsM.access rXs : View sig .tc .vmem S1024x1024 .f32).set = xsM.view.set :=
  (set_unit_zero cc0_scratch2 (by decide) inb_S1024x1024_S1024x1024_0_0).trans (View.set_whole (b := cc0_scratch2)).symm

theorem wp_xconv (c : Dev nD) (k : Fin 4) (s o : Fin 2 → ℕ) (hs : ∀ a, s a + S1024x1024.size a ≤ S4096x1024.size a)
    (ho : ∀ a, o a + S1024x1024.size a ≤ S4096x1024.size a) (hp : (rX o ho).PackedRows (EltTy.packing .fp8e5m2))
    (es : s = chunk k) (eo : o = chunk k) {l : List Ev} {Q : PUnit → sProp 𝕄} :
    iprop(Know m ∗ xPc m c k ∗ FreeX (F := F) c ∗ Any (F := F) c (x8P k) ∗ OW c l)
      ⊢ iprop((iprop(xPc m c k ∗ FreeX (F := F) c ∗ At c (x8P k) (x8v m c k) ∗ OW c l) -∗ Q ⟨⟩) -∗ WP c (xconv s o hs ho hp) Q) := by
  subst es; subst eo
  unfold xPc FreeX Any
  simp only [xconv, Prog.lift, Prog.bind_op, Prog.bind_ret, Prog.pure_eq_ret]
  iintro ⟨#HK, Hx, ⟨⟨%fd, Hd⟩, Hs⟩, H8, HO⟩ Hk
  iapply (wp_start c (src := aV (chunk k) hs) (dst := xsM) (fs := m ((c : Thread nD τ).loc main_arg0)) (fd := fd) (View.dmaCredit_pos _ (by decide))
    (Entails.refl _)) $$ [Hx Hd Hs]
  · isplitl [Hx]; · iexact Hx
    isplitl [Hd]; · iexact Hd
    iexact Hs
  iintro Hf
  iapply (wp_land c (by decide)) $$ [Hf HO]
  · isplitr; · iapply (know_lev m); iexact HK
    isplitl [Hf]; · iexact Hf
    iexact HO
  iintro ⟨⟨Hd, Hx⟩, Hs, HO⟩
  iapply (wp_load_rect 𝒱₀ (c : Thread nD τ) none Set.univ (m := xsM) (r := rXs) (by rw [set_rXs])) $$ Hd
  iintro Hd
  iapply (wp_loadAny c (m := x8M)) $$ [H8]
  · unfold Any; iexact H8
  iintro %X H8
  iapply (wp_storeAny c (m := x8M)) $$ H8
  iintro H8
  iapply (WP_ret c)
  iapply Hk
  isplitl [Hx]; · iexact Hx
  isplitl [Hd Hs]
  · isplitl [Hd]; · iexists _; iexact Hd
    iexact Hs
  isplitl [H8]
  · rw [show x8v m c k = k0_pay2 ((xsM.access rXs : View sig .tc .vmem S1024x1024 .f32).read (Elt F)
        (xsM.view.write (Elt F) fd ((aV (chunk k) hs).view.read (Elt F) (m ((c : Thread nD τ).loc main_arg0))) Finset.univ)) from by
      unfold x8v
      congr 1
      refine ((Memref.readAt_unit_zero (Elt F) cc0_scratch2 (by decide) inb_S1024x1024_S1024x1024_0_0 _).trans ?_).symm
      exact View.write_whole_univ _ _ _]
    iexact H8
  iexact HO

/-! ## The first step of a tile -/

theorem wp_tileA (c : Dev nD) (d : Fin 2) (u : Fin 8) (next : P F PUnit) (t : Dev nD) (o : Fin 2 → ℕ)
    (ho : ∀ a, o a + S1024x1024.size a ≤ S4096x1024.size a) (et : dst d c = t) (eo : o = chunk (chunkAt 0 d c))
    {R R' : sProp 𝕄} (hn : ∀ Q : PUnit → sProp 𝕄, R ⊢ iprop((R' -∗ Q ⟨⟩) -∗ WP c next Q)) {l : List Ev} {Q : PUnit → sProp 𝕄} :
    iprop(Know m ∗ FlyW m c d u ∗ R ∗ At c (x8P (chunkAt 0 d c)) (x8v m c (chunkAt 0 d c)) ∗ Any (F := F) c (w8P d u) ∗ Any (F := F) c (slot d 0 u)
        ∗ Any (F := F) (dst d c) (slot d 1 u) ∗ dutyTok ER (sendC c d 0 u) 0 0 ∗ dutyTok ER (recvC (dst d c) d 1 u) 0 0 ∗ OW c (.recv 0 d u :: l))
      ⊢ iprop((iprop(FreeW (F := F) c d ∗ wPc m c d u ∗ R' ∗ At c (x8P (chunkAt 0 d c)) (x8v m c (chunkAt 0 d c)) ∗ At c (w8P d u) (w8v m c d u)
            ∗ cred (tallyAt (sendC c d 0 u) 0 N) ∗ OW c l) -∗ Q ⟨⟩)
          -∗ WP c (tileA next t d u o ho) Q) := by
  subst et; subst eo
  unfold FlyW
  simp only [tileA, Prog.lift, Prog.bind_op, Prog.bind_ret, Prog.pure_eq_ret]
  iintro ⟨#HK, Hf, HR, Hx, Hw8, Hs0, Hs1, Ht, Htr, HO⟩ Hk
  iapply (wp_land c (low_w d)) $$ [Hf HO]
  · isplitr; · iapply (know_lev m); iexact HK
    isplitl [Hf]; · iexact Hf
    iexact HO
  iintro ⟨⟨Hws, Hw⟩, Hsem, HO⟩
  iapply (WP_bind c)
  iapply (hn _) $$ HR
  iintro HR
  iapply (wp_loadAt c (m := wsM)) $$ Hws; iintro Hws
  iapply (wp_loadAny c (m := w8M)) $$ Hw8; iintro %X Hw8
  iapply (wp_storeAny c (m := w8M)) $$ Hw8; iintro Hw8
  iapply (wp_loadAt c (m := x8M)) $$ Hx; iintro Hx
  iapply (wp_loadAt c (m := w8M)) $$ Hw8; iintro Hw8
  iapply (wp_loadAny c (m := cM)) $$ Hs0; iintro %Y Hs0
  iapply (wp_storeAny c (m := cM)) $$ Hs0; iintro Hs0
  ihave #H1 := (know_send m c d 0 u) $$ HK
  ihave #H2 := (know_recv m (dst d c) d 1 u) $$ HK
  ihave #H3 := (know_cred m c d u) $$ HK
  icases H1 with ⟨#HI1, #HR1⟩
  icases H2 with ⟨#HI2, #HR2⟩
  icases H3 with ⟨-, #HR3⟩
  iapply (wp_hop m c 0 d 1 0 u 0 (dst d c) rfl rfl (Nat.zero_lt_succ 1)) $$ [Hs0 Hs1 HO Ht Htr]
  · isplitr; · iexact HI1
    isplitr; · iexact HI2
    isplitl [Hs0]; · iexact Hs0
    isplitl [Hs1]; · iexact Hs1
    isplitl [HO]; · iexact HO
    isplitl [Ht]; · iexact Ht
    isplitr; · iexact HR1
    isplitl [Htr]; · iexact Htr
    isplitr; · iexact HR2
    iexact HR3
  iintro ⟨Hc, HO⟩
  iapply (WP_ret c)
  iapply Hk
  isplitl [Hws Hsem]
  · unfold FreeW
    isplitl [Hws]; · iapply (Any_of_At c (wsM.access (rBuf d)) _) $$ Hws
    iexact Hsem
  isplitl [Hw]; · iexact Hw
  isplitl [HR]; · iexact HR
  isplitl [Hx]; · iexact Hx
  isplitl [Hw8]; · iexact Hw8
  isplitl [Hc]; · iexact Hc
  iexact HO

/-! ## A middle step -/

theorem slots_facts (i j : Fin 2) (h : j = 1 - i) (d : Fin 2) (u : Fin 8) :
    i.val < rounds (.send d j u) ∧ hopOf j 0 = i.castSucc ∧ 0 < rounds (.send d i u) ∧ 0 < rounds (.recv d j u) := by
  subst h
  show (i.val < if 1 - i = 0 then 2 else 1) ∧ hopOf (1 - i) 0 = i.castSucc ∧ (0 < if i = 0 then 2 else 1) ∧ 0 < if 1 - i = 1 then 2 else 1
  revert i; decide
theorem hop_facts (i : Fin 2) : slotIn i.succ = i ∧ roundIn i.succ = i.val ∧ slotOf i.val = i ∧ i.val ∈ ({0, 1} : Finset ℕ) := by
  revert i; decide

theorem wp_tileH (c : Dev nD) (i j : Fin 2) (hij : j = 1 - i) (d : Fin 2) (u : Fin 8) (f t : Dev nD) (o : Fin 2 → ℕ)
    (ho : ∀ a, o a + S1024x1024.size a ≤ S4096x1024.size a) (ef : ups d c = f) (et : dst d c = t) (eo : o = chunk (chunkAt i.succ d c))
    {l : List Ev} (hl : ∀ e ∈ l, 3 + 32 * i.val + (2 * u.val + d.val) < e.lev) {Q : PUnit → sProp 𝕄} :
    iprop(Know m ∗ At c (x8P (chunkAt i.succ d c)) (x8v m c (chunkAt i.succ d c)) ∗ At c (w8P d u) (w8v m c d u)
        ∗ (cred (tallyAt (sendC c d i u) 0 N) ∗ atPos ER (credC c d u) i.val ∅ 0 ∗ reached ER (recvC c d i u) i.val ∗ reached ER (sendC c d j u) i.val)
        ∗ (atPos ER (sendC c d i u) 0 ∅ 0 ∗ atPos ER (recvC c d j u) 0 ∅ 0 ∗ cred (tallyAt (recvC c d j u) 0 N) ∗ cred (tallyAt (credC c d u) i.val 1)
          ∗ dutyTok ER (credC (ups d c) d u) i.val 0 ∗ dutyTok ER (sendC c d j u) i.val 0 ∗ dutyTok ER (recvC (dst d c) d i u) i.val 0)
        ∗ OW c (.cred i d u :: .recv i.succ d u :: l))
      ⊢ iprop((iprop(At c (x8P (chunkAt i.succ d c)) (x8v m c (chunkAt i.succ d c)) ∗ At c (w8P d u) (w8v m c d u)
            ∗ (cred (tallyAt (sendC c d j u) i.val N) ∗ atPos ER (credC c d u) (i.val + 1) ∅ 0 ∗ reached ER (recvC c d j u) 1 ∗ reached ER (sendC c d i u) 1)
            ∗ (atPos ER (sendC c d i u) 1 ∅ 0 ∗ atPos ER (recvC c d j u) 1 ∅ 0)
            ∗ OW c l) -∗ Q ⟨⟩)
          -∗ WP c (tileH i j f t d u o ho) Q) := by
  subst ef; subst et; subst eo
  obtain ⟨f1, f2, f7, f8⟩ := slots_facts i j hij d u
  obtain ⟨f3, f4, f5, f6⟩ := hop_facts i
  have hu := u.isLt
  have hd := d.isLt
  simp only [tileH, semSignalWord, semWaitWord, Prog.lift, Prog.bind_op, Prog.bind_ret, Prog.pure_eq_ret]
  iintro ⟨#HK, Hx, Hw8, ⟨HcS, HaC, #HrR, #HrS⟩, ⟨HaS, HaR, HcR, HcC, HtC, HtS, HtR⟩, HO⟩ Hk
  ihave #HL := (know_lev m) $$ HK
  ihave #H1 := (know_send m c d i u) $$ HK
  ihave #H2 := (know_recv m c d j u) $$ HK
  ihave #H3 := (know_cred m c d u) $$ HK
  ihave #H4 := (know_send m c d j u) $$ HK
  ihave #H5 := (know_recv m (dst d c) d i u) $$ HK
  ihave #H6 := (know_cred m (ups d c) d u) $$ HK
  icases H1 with ⟨#HI1, -⟩
  icases H2 with ⟨#HI2, -⟩
  icases H3 with ⟨#HI3, -⟩
  icases H4 with ⟨#HI4, -⟩
  icases H5 with ⟨#HI5, -⟩
  icases H6 with ⟨#HI6, -⟩
  iapply (wp_loadAt c (m := x8M)) $$ Hx; iintro Hx
  iapply (wp_loadAt c (m := w8M)) $$ Hw8; iintro Hw8
  -- the slot last sent from is back
  iapply (wp_waitCell m c (wpE_waitDma2_eq 𝒱₀ (c : Thread nD τ) none Set.univ) (kind_send d i u) f7 rfl (by rfl) (by decide)
      (fun e _ => lev_pos e)) $$ [HcS HO HaS]
  · isplitr; · iexact HI1
    isplitr; · iexact HL
    isplitl [HcS]; · iexact HcS
    isplitl [HO]; · iexact HO
    iexact HaS
  iintro ⟨HO, HaS, #HrS', Hsi⟩
  ihave Hsi := (show payOf m c 0 0 (.send d i u) ⊢ Any (F := F) c (slot d i u) from Entails.refl _) $$ Hsi
  -- the sum so far has come in, and with it that the sender's credit cell is at its round
  iapply (wp_waitCell m c (wpE_waitDma2_eq 𝒱₀ (c : Thread nD τ) none Set.univ) (l := .cred i d u :: .recv i.succ d u :: l) (kind_recv d j u) f8 rfl (by rfl) (by decide)
      (fun e he => by
        show 2 + 32 * (hopOf j 0).val < e.lev
        rw [f2, Fin.val_castSucc]
        rcases List.mem_cons.mp he with rfl | he
        · show _ < 3 + 32 * i.val + (2 * u.val + d.val); omega
        rcases List.mem_cons.mp he with rfl | he
        · show _ < 2 + 32 * i.succ.val; rw [Fin.val_succ]; omega
        · have := hl e he; omega)) $$ [HcR HO HaR]
  · isplitr; · iexact HI2
    isplitr; · iexact HL
    isplitl [HcR]; · iexact HcR
    isplitl [HO]; · iexact HO
    iexact HaR
  iintro ⟨HO, HaR, #HrR', Hp⟩
  ihave Hp := (show payOf m c 0 0 (.recv d j u) ⊢ iprop(At c (slot d j u) (sumv m i.castSucc (ups d c) d u) ∗ reached ER (credC (ups d c) d u) i.val) from by
    show iprop(At c (slot d j u) (sumv m (hopOf j 0) (ups d c) d u) ∗ reached ER (credC (ups d c) d u) (hopOf j 0).val) ⊢ _
    rw [f2]; exact Entails.refl _) $$ Hp
  icases Hp with ⟨Hsj, #HrC⟩
  -- the freed slot goes to the sender
  iapply (wp_sig m c (e := .cred i d u) (t := ups d c) (r := i.val) (dt := 0) (kind_cred d u) (by show i.val < 2; exact i.isLt) (Finset.mem_singleton_self _) rfl rfl rfl rfl) $$ [HO HtC Hsi]
  · isplitr; · iexact HI6
    isplitl [HO]; · iexact HO
    isplitl [HtC]; · iexact HtC
    isplitl [Hsi]
    · iapply (show iprop(Any (F := F) c (slot d i u) ∗ reached ER (recvC c d i u) i.val) ⊢ payOf m (ups d c) i.val 0 (.cred d u) from by
        show _ ⊢ iprop(Any (F := F) (dst d (ups d c)) (slot d (slotOf i.val) u) ∗ reached ER (recvC (dst d (ups d c)) d (slotOf i.val) u) i.val)
        rw [f5, dst_ups])
      isplitl [Hsi]; · iexact Hsi
      iexact HrR
    iexact HrC
  iintro HO
  iapply (wp_loadAt c (m := cM)) $$ Hsj; iintro Hsj
  iapply (wp_loadAt c (m := cM)) $$ Hsj; iintro Hsj
  iapply (wp_storeAny c (m := cM)) $$ [Hsj]
  · iapply (Any_of_At c (slot d j u) _) $$ Hsj
  iintro Hsj
  -- the next device's slot is free
  iapply (wp_waitCell m c (wpE_semWait_eq 𝒱₀ (c : Thread nD τ) none Set.univ) (l := .recv i.succ d u :: l) (kind_cred d u) (r := i.val) (by show i.val < 2; exact i.isLt) rfl (by rfl) f6
      (fun e he => by
        show 3 + 32 * i.val + (2 * u.val + d.val) < e.lev
        rcases List.mem_cons.mp he with rfl | he
        · show _ < 2 + 32 * i.succ.val; rw [Fin.val_succ]; omega
        · exact hl e he)) $$ [HcC HO HaC]
  · isplitr; · iexact HI3
    isplitr; · iexact HL
    isplitl [HcC]; · iexact HcC
    isplitl [HO]; · iexact HO
    iexact HaC
  iintro ⟨HO, HaC, #HrC', Hp⟩
  ihave Hp := (show payOf m c i.val 0 (.cred d u) ⊢ iprop(Any (F := F) (dst d c) (slot d i u) ∗ reached ER (recvC (dst d c) d i u) i.val) from by
    show iprop(Any (F := F) (dst d c) (slot d (slotOf i.val) u) ∗ reached ER (recvC (dst d c) d (slotOf i.val) u) i.val) ⊢ _
    rw [f5]) $$ Hp
  icases Hp with ⟨Hsd, #HrD⟩
  iapply (wp_hop m c i.succ d i j u i.val (dst d c) rfl f3 f1) $$ [Hsj Hsd HO HtS HtR]
  · isplitr; · iexact HI4
    isplitr; · iexact HI5
    isplitl [Hsj]; · rw [sumv_succ]; iexact Hsj
    isplitl [Hsd]; · iexact Hsd
    isplitl [HO]; · iexact HO
    isplitl [HtS]; · iexact HtS
    isplitr; · iexact HrS
    rw [f4]
    isplitl [HtR]; · iexact HtR
    isplitr; · iexact HrD
    rw [Fin.val_succ]; iexact HrC'
  iintro ⟨Hc, HO⟩
  iapply (WP_ret c)
  iapply Hk
  isplitl [Hx]; · iexact Hx
  isplitl [Hw8]; · iexact Hw8
  isplitl [Hc HaC]
  · isplitl [Hc]; · iexact Hc
    isplitl [HaC]; · iexact HaC
    isplitr; · iexact HrR'
    iexact HrS'
  isplitl [HaS HaR]
  · isplitl [HaS]; · iexact HaS
    iexact HaR
  iexact HO

/-! ## The last step -/

/-- The staging buffer of a finished tile with no copy under way, -/
def FreeO (c : Dev nD) (d : Fin 2) : sProp 𝕄 := iprop(Any (F := F) c (stM.access (rBuf d)) ∗ semVal ((c : Thread nD τ), .dma (outS d)) 0)
/-- and with one. -/
def FlyO (c : Dev nD) (d : Fin 2) (u : Fin 8) : sProp 𝕄 :=
  Flight EC (c : Thread nD τ) (.dma (outS d)) 0 (oV d u).view.dmaCredit iprop(At c (oV d u).view (outTile m c d u) ∗ Any (F := F) c (stM.access (rBuf d)))

theorem wp_waitO (c : Dev nD) (d : Fin 2) (u : Fin 8) {l : List Ev} {Q : PUnit → sProp 𝕄} :
    iprop(Know m ∗ FlyO m c d u ∗ OW c l)
      ⊢ iprop((iprop(FreeO (F := F) c d ∗ At c (oV d u).view (outTile m c d u) ∗ OW c l) -∗ Q ⟨⟩) -∗ WP c (waitO d u) Q) := by
  unfold FlyO FreeO
  simp only [waitO, Prog.lift]
  iintro ⟨#HK, Hf, HO⟩ Hk
  iapply (wp_land c (low_o d)) $$ [Hf HO]
  · isplitr; · iapply (know_lev m); iexact HK
    isplitl [Hf]; · iexact Hf
    iexact HO
  iintro ⟨⟨Ho, Hst⟩, Hsem, HO⟩
  iapply (WP_ret c)
  iapply Hk
  isplitl [Hst Hsem]
  · isplitl [Hst]; · iexact Hst
    iexact Hsem
  isplitl [Ho]; · iexact Ho
  iexact HO

theorem wp_tileL (c : Dev nD) (d : Fin 2) (u : Fin 8) (before : P F PUnit) (o : Fin 2 → ℕ)
    (ho : ∀ a, o a + S1024x1024.size a ≤ S4096x1024.size a) (eo : o = chunk c)
    {R R' : sProp 𝕄} (hb : ∀ Q : PUnit → sProp 𝕄, iprop(R ∗ OW c []) ⊢ iprop((iprop(FreeO (F := F) c d ∗ R' ∗ OW c []) -∗ Q ⟨⟩) -∗ WP c before Q))
    {Q : PUnit → sProp 𝕄} :
    iprop(Know m ∗ At c (x8P c) (x8v m c c) ∗ At c (w8P d u) (w8v m c d u) ∗ R ∗ Any (F := F) c (oV d u).view
        ∗ cred (tallyAt (sendC c d 0 u) 1 N) ∗ cred (tallyAt (recvC c d 1 u) 1 N) ∗ atPos ER (sendC c d 0 u) 1 ∅ 0 ∗ atPos ER (recvC c d 1 u) 1 ∅ 0 ∗ OW c [])
      ⊢ iprop((iprop(At c (x8P c) (x8v m c c) ∗ At c (w8P d u) (w8v m c d u) ∗ R' ∗ FlyO m c d u ∗ Any (F := F) c (slot d 0 u) ∗ Any (F := F) c (slot d 1 u)
            ∗ atPos ER (sendC c d 0 u) 2 ∅ 0 ∗ atPos ER (recvC c d 1 u) 2 ∅ 0 ∗ OW c []) -∗ Q ⟨⟩)
          -∗ WP c (tileL before (k0_pay1 (sc0 m c) (sc1 m c)) d u o ho) Q) := by
  subst eo
  simp only [tileL, Prog.lift, Prog.bind_op, Prog.bind_ret, Prog.pure_eq_ret]
  iintro ⟨#HK, Hx, Hw8, HR, Ho, HcS, HcR, HaS, HaR, HO⟩ Hk
  ihave #HL := (know_lev m) $$ HK
  ihave #H1 := (know_send m c d 0 u) $$ HK
  ihave #H2 := (know_recv m c d 1 u) $$ HK
  icases H1 with ⟨#HI1, -⟩
  icases H2 with ⟨#HI2, -⟩
  iapply (wp_loadAt c (m := x8M)) $$ Hx; iintro Hx
  iapply (wp_loadAt c (m := w8M)) $$ Hw8; iintro Hw8
  iapply (wp_waitCell m c (wpE_waitDma2_eq 𝒱₀ (c : Thread nD τ) none Set.univ) (kind_send d 0 u) (r := 1) (Nat.lt_succ_self 1) rfl (by rfl) (by decide)
      (fun e he => absurd he List.not_mem_nil)) $$ [HcS HO HaS]
  · isplitr; · iexact HI1
    isplitr; · iexact HL
    isplitl [HcS]; · iexact HcS
    isplitl [HO]; · iexact HO
    iexact HaS
  iintro ⟨HO, HaS, -, Hs0⟩
  iapply (wp_waitCell m c (wpE_waitDma2_eq 𝒱₀ (c : Thread nD τ) none Set.univ) (kind_recv d 1 u) (r := 1) (Nat.lt_succ_self 1) rfl (by rfl) (by decide)
      (fun e he => absurd he List.not_mem_nil)) $$ [HcR HO HaR]
  · isplitr; · iexact HI2
    isplitr; · iexact HL
    isplitl [HcR]; · iexact HcR
    isplitl [HO]; · iexact HO
    iexact HaR
  iintro ⟨HO, HaR, -, Hp⟩
  ihave Hp := (show payOf m c 1 0 (.recv d 1 u) ⊢ iprop(At c (slot d 1 u) (sumv m 2 (ups d c) d u) ∗ reached ER (credC (ups d c) d u) 2) from Entails.refl _) $$ Hp
  icases Hp with ⟨Hs1, -⟩
  iapply (WP_bind c)
  iapply (hb _) $$ [HR HO]
  · isplitl [HR]; · iexact HR
    iexact HO
  iintro ⟨Hfree, HR, HO⟩
  unfold FreeO
  icases Hfree with ⟨Hst, Hsem⟩
  iapply (wp_loadAt c (m := cM)) $$ Hs1; iintro Hs1
  iapply (wp_loadAny c (m := stM)) $$ Hst; iintro %Y Hst
  iapply (wp_storeAny c (m := stM)) $$ Hst; iintro Hst
  ihave Hst := (show At c (stM.access (rBuf d)) (k0_pay109 (k0_pay1 (sc0 m c) (sc1 m c)) (k0_pay40 (x8v m c c) (w8v m c d u)) (sumv m 2 (ups d c) d u))
      ⊢ At c (stM.access (rBuf d)) (outv m c d u) from Entails.refl _) $$ Hst
  unfold At Any
  icases Hst with ⟨%fs, %hf, Hst⟩
  icases Ho with ⟨%fo, Ho⟩
  iapply (wp_start c (src := stV d) (dst := oV d u) (fs := fs) (fd := fo) (View.dmaCredit_pos _ (by decide))
    (D := iprop(At c (oV d u).view (outTile m c d u) ∗ Any (F := F) c (stM.access (rBuf d))))
    (by
      unfold At Any
      iintro ⟨H, Hw⟩
      isplitl [H]
      · iexists _
        isplitr
        rotate_left
        · iexact H
        · ipureintro
          refine (View.read_write_univ _ _).trans ?_
          unfold outTile
          rw [← hf]
          rfl
      · iexists fs; rw [View.set_reshape]; iexact Hw)) $$ [Ho Hst Hsem]
  · isplitl [Hst]; · rw [View.set_reshape]; iexact Hst
    isplitl [Ho]; · iexact Ho
    iexact Hsem
  iintro Hf
  iapply (WP_ret c)
  iapply Hk
  isplitl [Hx]; · iexact Hx
  isplitl [Hw8]; · iexact Hw8
  isplitl [HR]; · iexact HR
  isplitl [Hf]; · unfold FlyO At Any; iexact Hf
  isplitl [Hs0]; · iapply (show payOf m c 1 0 (.send d 0 u) ⊢ iprop(∃ f, ((slot d 0 u).loc (c : Thread nD τ) ↦[(slot d 0 u).set]{fullShare} f)) from Entails.refl _) $$ Hs0
  isplitl [Hs1]
  · icases Hs1 with ⟨%f, -, Hs1⟩
    iexists f; iexact Hs1
  isplitl [HaS]; · iexact HaS
  isplitl [HaR]; · iexact HaR
  iexact HO

end Cert.KernelIdealProof
-- ==== Proof.KernelIdeal.Loops.lean ====
/-
The kernel's loops over the tiles, each once: what one pair of tiles needs and leaves, and so what the loop does.
-/
module

public import proofs.«01_k».proof.Proof.KernelIdeal.Tiles

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Transfers (Flight)

local notation "𝕄" => MT nD τ sig ℕ (Elt F) ℕ UU ℕ

variable (m : (ℓ : Loc nD τ sig) → Buf (Elt F) ℓ)

/-! ## Running a step over the tiles -/

theorem wp_over_list (c : Dev nD) (f : Fin 8 → P F PUnit) (r : P F PUnit) (I : ℕ → sProp 𝕄) (pre post : Fin 8 → sProp 𝕄)
    (h : ∀ (u : Fin 8) (Q : PUnit → sProp 𝕄), iprop(I u.val ∗ pre u) ⊢ iprop((iprop(I (u.val + 1) ∗ post u) -∗ Q ⟨⟩) -∗ WP c (f u) Q))
    {Q : PUnit → sProp 𝕄} : ∀ (u : Fin 8) (l : List (Fin 8)), (u :: l).map Fin.val = List.range' u.val (l.length + 1) →
    iprop(I u.val ∗ bigSepL (u :: l) pre)
      ⊢ iprop((iprop(I (u.val + (l.length + 1)) ∗ bigSepL (u :: l) post) -∗ WP c r Q) -∗ WP c (over f (u :: l) r) Q)
  | u, [], _ => by
    rw [bigSepL_singleton, bigSepL_singleton]
    show _ ⊢ iprop(_ -∗ WP c (f u >>= fun _ => r) Q)
    iintro H Hk
    iapply (WP_bind c)
    iapply (h u _) $$ H
    iexact Hk
  | u, v :: l, hl => by
    rw [List.map_cons, List.length_cons, List.range'_succ] at hl
    have hl' := (List.cons.inj hl).2
    have hv : v.val = u.val + 1 := by
      rw [List.map_cons, List.range'_succ] at hl'; exact (List.cons.inj hl').1
    have ih := wp_over_list c f r I pre post h (Q := Q) v l (by rw [hv]; exact hl')
    rw [bigSepL_cons_cons, bigSepL_cons_cons]
    show iprop(I u.val ∗ pre u ∗ bigSepL (v :: l) pre)
      ⊢ iprop((iprop(I (u.val + (l.length + 1 + 1)) ∗ post u ∗ bigSepL (v :: l) post) -∗ WP c r Q) -∗ WP c (f u >>= fun _ => over f (v :: l) r) Q)
    iintro ⟨HI, Hu, Hl⟩ Hk
    iapply (WP_bind c)
    iapply (h u _) $$ [HI Hu]
    · isplitl [HI]; · iexact HI
      iexact Hu
    iintro ⟨HI, Hp⟩
    iapply ih $$ [HI Hl]
    · isplitl [HI]; · rw [hv]; iexact HI
      iexact Hl
    iintro ⟨HI, Hps⟩
    iapply Hk
    isplitl [HI]
    · rw [hv, show u.val + (l.length + 1 + 1) = u.val + 1 + (l.length + 1) from by omega]; iexact HI
    isplitl [Hp]; · iexact Hp
    iexact Hps

theorem over_us (Φ : Fin 8 → sProp 𝕄) : bigSep Finset.univ Φ = bigSepL us Φ := bigSep_univ_eq_bigSepL us (by decide) (by decide) Φ

theorem wp_over (c : Dev nD) (f : Fin 8 → P F PUnit) (r : P F PUnit) (I : ℕ → sProp 𝕄) (pre post : Fin 8 → sProp 𝕄)
    (h : ∀ (u : Fin 8) (Q : PUnit → sProp 𝕄), iprop(I u.val ∗ pre u) ⊢ iprop((iprop(I (u.val + 1) ∗ post u) -∗ Q ⟨⟩) -∗ WP c (f u) Q))
    {Q : PUnit → sProp 𝕄} :
    iprop(I 0 ∗ bigSep Finset.univ pre) ⊢ iprop((iprop(I 8 ∗ bigSep Finset.univ post) -∗ WP c r Q) -∗ WP c (over f us r) Q) := by
  rw [over_us, over_us]
  exact wp_over_list c f r I pre post h (0 : Fin 8) [1, 2, 3, 4, 5, 6, 7] (by decide)

/-! ## The payments still ahead -/

def evA (u : Fin 8) : List Ev := [.recv 0 0 u, .recv 0 1 u]
def evH (i : Fin 2) (u : Fin 8) : List Ev := [.cred i 0 u, .recv i.succ 0 u, .cred i 1 u, .recv i.succ 1 u]
/-- The payments of the tiles from `n` on, and the `rest`. -/
def ahead (n : ℕ) (f : Fin 8 → List Ev) (rest : List Ev) : List Ev := (us.drop n).flatMap f ++ rest

theorem drop_us (u : Fin 8) : us.drop u.val = u :: us.drop (u.val + 1) := by revert u; decide
theorem ahead_eq (u : Fin 8) (f : Fin 8 → List Ev) (rest : List Ev) : ahead u.val f rest = f u ++ ahead (u.val + 1) f rest := by
  unfold ahead; rw [drop_us, List.flatMap_cons, List.append_assoc]
theorem ahead_8 (f : Fin 8 → List Ev) (rest : List Ev) : ahead 8 f rest = rest := rfl

theorem lt_of_mem_drop (u v : Fin 8) (h : v ∈ us.drop (u.val + 1)) : u.val < v.val := by revert u v; decide

/-- The payments of the later tiles of a round lie above this tile's. -/
theorem lev_ahead (i : Fin 2) (u : Fin 8) (d : Fin 2) {rest : List Ev} (hr : ∀ e ∈ rest, 19 + 32 * i.val ≤ e.lev) :
    ∀ e ∈ ahead (u.val + 1) (evH i) rest, 3 + 32 * i.val + (2 * u.val + d.val) < e.lev := by
  intro e he
  have hu := u.isLt
  have hd := d.isLt
  rcases List.mem_append.mp he with he | he
  · obtain ⟨v, hv, he⟩ := List.mem_flatMap.mp he
    have hv := lt_of_mem_drop u v hv
    have hs := Fin.val_succ i
    simp only [evH, List.mem_cons, List.not_mem_nil, or_false] at he
    rcases he with rfl | rfl | rfl | rfl <;> simp only [Ev.lev, Fin.val_zero, Fin.val_one] <;> omega
  · have := hr e he; omega

/-! ## A tile's share of the protocol -/

section Shares

variable (c : Dev nD) (i j d : Fin 2) (u : Fin 8)

/-- What a first step spends. -/
def TokA : sProp 𝕄 := iprop(dutyTok ER (sendC c d 0 u) 0 0 ∗ dutyTok ER (recvC (dst d c) d 1 u) 0 0)
/-- What middle step `i` spends, -/
def TokH : sProp 𝕄 :=
  iprop(atPos ER (sendC c d i u) 0 ∅ 0 ∗ atPos ER (recvC c d j u) 0 ∅ 0 ∗ cred (tallyAt (recvC c d j u) 0 N) ∗ cred (tallyAt (credC c d u) i.val 1)
    ∗ dutyTok ER (credC (ups d c) d u) i.val 0 ∗ dutyTok ER (sendC c d j u) i.val 0 ∗ dutyTok ER (recvC (dst d c) d i u) i.val 0)
/-- what it takes over from the step before, -/
def Mid : sProp 𝕄 :=
  iprop(cred (tallyAt (sendC c d i u) 0 N) ∗ atPos ER (credC c d u) i.val ∅ 0 ∗ reached ER (recvC c d i u) i.val ∗ reached ER (sendC c d j u) i.val)
/-- hands to the step after, -/
def Mid' : sProp 𝕄 :=
  iprop(cred (tallyAt (sendC c d j u) i.val N) ∗ atPos ER (credC c d u) (i.val + 1) ∅ 0 ∗ reached ER (recvC c d j u) 1 ∗ reached ER (sendC c d i u) 1)
/-- and leaves for later. -/
def Left : sProp 𝕄 := iprop(atPos ER (sendC c d i u) 1 ∅ 0 ∗ atPos ER (recvC c d j u) 1 ∅ 0)
/-- What is left of a tile's cells at the end. -/
def Done : sProp 𝕄 :=
  iprop(atPos ER (sendC c d 0 u) 2 ∅ 0 ∗ atPos ER (sendC c d 1 u) 1 ∅ 0 ∗ atPos ER (recvC c d 0 u) 1 ∅ 0 ∗ atPos ER (recvC c d 1 u) 2 ∅ 0
    ∗ atPos ER (credC c d u) 2 ∅ 0)

end Shares

/-! ## The first steps -/

/-- Before and after a first step. -/
def preA (c : Dev nD) (d : Fin 2) (u : Fin 8) : sProp 𝕄 :=
  iprop(Any (F := F) c (w8P d u) ∗ Any (F := F) c (slot d 0 u) ∗ Any (F := F) (dst d c) (slot d 1 u) ∗ TokA (F := F) c d u)
def postA (c : Dev nD) (d : Fin 2) (u : Fin 8) : sProp 𝕄 := iprop(At c (w8P d u) (w8v m c d u) ∗ cred (tallyAt (sendC c d 0 u) 0 N))

/-- The fetch under way for tile `n` of direction 0, and its columns. -/
def fly0 (c : Dev nD) (n : ℕ) : sProp 𝕄 := if h : n < 8 then FlyW m c 0 ⟨n, h⟩ else FreeW (F := F) c 0
def wNext (c : Dev nD) (u : Fin 8) : sProp 𝕄 := if h : u.val < 7 then wPc m c 0 ⟨u.val + 1, Nat.succ_lt_succ h⟩ else iprop(emp)

/-- What can be lent out and comes back. -/
def Lends (X A : sProp 𝕄) : Prop := X ⊢ iprop(A ∗ (A -∗ X))

theorem off5_0 (c : Dev nD) : k0_off5 c 4294967295#32 = chunk (chunkAt 0 0 c) := by revert c; decide
theorem off5_1 (c : Dev nD) : k0_off5 c 1#32 = chunk (chunkAt 0 1 c) := by revert c; decide

theorem wp_pairA (c : Dev nD) {X : sProp 𝕄} (hX : ∀ d : Fin 2, Lends X (At c (x8P (chunkAt 0 d c)) (x8v m c (chunkAt 0 d c)))) (rest : List Ev)
    (u : Fin 8) (Q : PUnit → sProp 𝕄) :
    iprop((Know m ∗ fly0 m c u.val ∗ FreeW (F := F) c 1 ∗ X ∗ OW c (ahead u.val evA rest)) ∗ (wPc m c 1 u ∗ wNext m c u ∗ preA c 0 u ∗ preA c 1 u))
      ⊢ iprop((iprop((Know m ∗ fly0 m c (u.val + 1) ∗ FreeW (F := F) c 1 ∗ X ∗ OW c (ahead (u.val + 1) evA rest))
            ∗ (wPc m c 0 u ∗ wPc m c 1 u ∗ postA m c 0 u ∗ postA m c 1 u)) -∗ Q ⟨⟩) -∗ WP c (pairA c u) Q) := by
  have h0 := hX 0
  have h1 := hX 1
  unfold Lends at h0 h1
  rw [ahead_eq, show fly0 m c u.val = FlyW m c 0 u from dif_pos u.isLt]
  unfold preA postA TokA pairA
  iintro ⟨⟨#HK, Hf, H1, HX, HO⟩, Hw1, Hwn, ⟨Ha0, Hb0, Hc0, Ht0, Hr0⟩, ⟨Ha1, Hb1, Hc1, Ht1, Hr1⟩⟩ Hk
  iapply (WP_bind c)
  ihave HX := h0 $$ HX
  icases HX with ⟨Hx, HX⟩
  iapply (wp_tileA m c 0 u (fetchW 1 u) (rgt c) _ _ ((rgt_eq c).symm ▸ rfl) (off5_0 c) (R := iprop(FreeW (F := F) c 1 ∗ wPc m c 1 u)) (R' := FlyW m c 1 u)
      (fun Q => wp_fetchW m c 1 u) (l := .recv 0 1 u :: ahead (u.val + 1) evA rest)) $$ [Hf H1 Hw1 Hx HO Ha0 Hb0 Hc0 Ht0 Hr0]
  · isplitr; · iexact HK
    isplitl [Hf]; · iexact Hf
    isplitl [H1 Hw1]
    · isplitl [H1]; · iexact H1
      iexact Hw1
    isplitl [Hx]; · iexact Hx
    isplitl [Ha0]; · iexact Ha0
    isplitl [Hb0]; · iexact Hb0
    isplitl [Hc0]; · iexact Hc0
    isplitl [Ht0]; · iexact Ht0
    isplitl [Hr0]; · iexact Hr0
    iexact HO
  iintro ⟨H0, Hw0, Hf1, Hx, Hd0, He0, HO⟩
  ihave HX := HX $$ Hx
  ihave HX := h1 $$ HX
  icases HX with ⟨Hx, HX⟩
  iapply (wp_tileA m c 1 u _ (lft c) _ _ ((lft_eq c).symm ▸ rfl) (off5_1 c) (R := iprop(FreeW (F := F) c 0 ∗ wNext m c u)) (R' := fly0 m c (u.val + 1))
      (fun Q => by
        unfold wNext fly0
        by_cases h : u.val < 7
        · rw [dif_pos h, dif_pos h, dif_pos (Nat.succ_lt_succ h)]; exact wp_fetchW m c 0 _
        · rw [dif_neg h, dif_neg h, dif_neg (fun h' => h (Nat.lt_of_succ_lt_succ h'))]
          iintro ⟨H, -⟩ Hk
          iapply (WP_ret c)
          iapply Hk $$ H) (l := ahead (u.val + 1) evA rest)) $$ [Hf1 H0 Hwn Hx HO Ha1 Hb1 Hc1 Ht1 Hr1]
  · isplitr; · iexact HK
    isplitl [Hf1]; · iexact Hf1
    isplitl [H0 Hwn]
    · isplitl [H0]; · iexact H0
      iexact Hwn
    isplitl [Hx]; · iexact Hx
    isplitl [Ha1]; · iexact Ha1
    isplitl [Hb1]; · iexact Hb1
    isplitl [Hc1]; · iexact Hc1
    isplitl [Ht1]; · iexact Ht1
    isplitl [Hr1]; · iexact Hr1
    iexact HO
  iintro ⟨H1, Hw1, Hf, Hx, Hd1, He1, HO⟩
  ihave HX := HX $$ Hx
  iapply Hk
  isplitl [Hf H1 HX HO]
  · isplitr; · iexact HK
    isplitl [Hf]; · iexact Hf
    isplitl [H1]; · iexact H1
    isplitl [HX]; · iexact HX
    iexact HO
  isplitl [Hw0]; · iexact Hw0
  isplitl [Hw1]; · iexact Hw1
  isplitl [Hd0 He0]
  · isplitl [Hd0]; · iexact Hd0
    iexact He0
  · isplitl [Hd1]; · iexact Hd1
    iexact He1

/-! ## The middle steps -/

def preH (c : Dev nD) (i j d : Fin 2) (u : Fin 8) : sProp 𝕄 :=
  iprop(At c (w8P d u) (w8v m c d u) ∗ Mid (F := F) c i j d u ∗ TokH (F := F) c i j d u)
def postH (c : Dev nD) (i j d : Fin 2) (u : Fin 8) : sProp 𝕄 :=
  iprop(At c (w8P d u) (w8v m c d u) ∗ Mid' (F := F) c i j d u ∗ Left (F := F) c i j d u)

theorem wp_pairH (c : Dev nD) (i j : Fin 2) (hij : j = 1 - i) (f₀ t₀ f₁ t₁ : Dev nD) (o₀ o₁ : Fin 2 → ℕ)
    (h₀ : ∀ a, o₀ a + S1024x1024.size a ≤ S4096x1024.size a) (h₁ : ∀ a, o₁ a + S1024x1024.size a ≤ S4096x1024.size a)
    (ef₀ : ups 0 c = f₀) (et₀ : dst 0 c = t₀) (ef₁ : ups 1 c = f₁) (et₁ : dst 1 c = t₁)
    (eo₀ : o₀ = chunk (chunkAt i.succ 0 c)) (eo₁ : o₁ = chunk (chunkAt i.succ 1 c))
    {X : sProp 𝕄} (hX : ∀ d : Fin 2, Lends X (At c (x8P (chunkAt i.succ d c)) (x8v m c (chunkAt i.succ d c)))) (rest : List Ev)
    (hr : ∀ e ∈ rest, 19 + 32 * i.val ≤ e.lev) (u : Fin 8) (Q : PUnit → sProp 𝕄) :
    iprop((Know m ∗ X ∗ OW c (ahead u.val (evH i) rest)) ∗ (preH m c i j 0 u ∗ preH m c i j 1 u))
      ⊢ iprop((iprop((Know m ∗ X ∗ OW c (ahead (u.val + 1) (evH i) rest)) ∗ (postH m c i j 0 u ∗ postH m c i j 1 u)) -∗ Q ⟨⟩)
        -∗ WP c (tileH i j f₀ t₀ 0 u o₀ h₀ >>= fun _ => tileH i j f₁ t₁ 1 u o₁ h₁) Q) := by
  have hX0 := hX 0
  have hX1 := hX 1
  unfold Lends at hX0 hX1
  rw [ahead_eq]
  unfold preH postH Mid Mid' TokH Left
  have hi := i.isLt
  have hu := u.isLt
  iintro ⟨⟨#HK, HX, HO⟩, ⟨Ha0, Hb0, Hc0⟩, ⟨Ha1, Hb1, Hc1⟩⟩ Hk
  iapply (WP_bind c)
  ihave HX := hX0 $$ HX
  icases HX with ⟨Hx, HX⟩
  iapply (wp_tileH m c i j hij 0 u f₀ t₀ o₀ h₀ ef₀ et₀ eo₀ (l := .cred i 1 u :: .recv i.succ 1 u :: ahead (u.val + 1) (evH i) rest)
      (fun e he => by
        rcases List.mem_cons.mp he with rfl | he
        · show _ < 3 + 32 * i.val + (2 * u.val + 1); simp only [Fin.val_zero]; omega
        rcases List.mem_cons.mp he with rfl | he
        · show _ < 2 + 32 * i.succ.val; rw [Fin.val_succ]; simp only [Fin.val_zero]; omega
        · exact lev_ahead i u 0 hr e he)) $$ [Hx HO Ha0 Hb0 Hc0]
  · isplitr; · iexact HK
    isplitl [Hx]; · iexact Hx
    isplitl [Ha0]; · iexact Ha0
    isplitl [Hb0]; · iexact Hb0
    isplitl [Hc0]; · iexact Hc0
    iexact HO
  iintro ⟨Hx, Ha0, Hb0, Hc0, HO⟩
  ihave HX := HX $$ Hx
  ihave HX := hX1 $$ HX
  icases HX with ⟨Hx, HX⟩
  iapply (wp_tileH m c i j hij 1 u f₁ t₁ o₁ h₁ ef₁ et₁ eo₁ (l := ahead (u.val + 1) (evH i) rest) (lev_ahead i u 1 hr)) $$ [Hx HO Ha1 Hb1 Hc1]
  · isplitr; · iexact HK
    isplitl [Hx]; · iexact Hx
    isplitl [Ha1]; · iexact Ha1
    isplitl [Hb1]; · iexact Hb1
    isplitl [Hc1]; · iexact Hc1
    iexact HO
  iintro ⟨Hx, Ha1, Hb1, Hc1, HO⟩
  ihave HX := HX $$ Hx
  iapply Hk
  isplitl [HX HO]
  · isplitr; · iexact HK
    isplitl [HX]; · iexact HX
    iexact HO
  isplitl [Ha0 Hb0 Hc0]
  · isplitl [Ha0]; · iexact Ha0
    isplitl [Hb0]; · iexact Hb0
    iexact Hc0
  · isplitl [Ha1]; · iexact Ha1
    isplitl [Hb1]; · iexact Hb1
    iexact Hc1

/-! ## The last steps -/

def OutAt (c : Dev nD) (d : Fin 2) (u : Fin 8) : sProp 𝕄 := At c (oV d u).view (outTile m c d u)

def preL (c : Dev nD) (d : Fin 2) (u : Fin 8) : sProp 𝕄 :=
  iprop(At c (w8P d u) (w8v m c d u) ∗ Any (F := F) c (oV d u).view
    ∗ cred (tallyAt (sendC c d 0 u) 1 N) ∗ cred (tallyAt (recvC c d 1 u) 1 N) ∗ atPos ER (sendC c d 0 u) 1 ∅ 0 ∗ atPos ER (recvC c d 1 u) 1 ∅ 0)
/-- The tile before, which is through when a tile's last step is. -/
def outPrev (c : Dev nD) (d : Fin 2) (u : Fin 8) : sProp 𝕄 :=
  if h : 0 < u.val then OutAt m c d ⟨u.val - 1, Nat.lt_of_le_of_lt (Nat.sub_le _ _) u.isLt⟩ else iprop(emp)
def postL (c : Dev nD) (d : Fin 2) (u : Fin 8) : sProp 𝕄 :=
  iprop(At c (w8P d u) (w8v m c d u) ∗ outPrev m c d u ∗ Any (F := F) c (slot d 0 u) ∗ Any (F := F) c (slot d 1 u)
    ∗ atPos ER (sendC c d 0 u) 2 ∅ 0 ∗ atPos ER (recvC c d 1 u) 2 ∅ 0)
/-- The staging buffer of a direction, when `n` tiles have been sent off. -/
def flyO (c : Dev nD) (d : Fin 2) (n : ℕ) : sProp 𝕄 := if h : 0 < n ∧ n < 9 then FlyO m c d ⟨n - 1, by omega⟩ else FreeO (F := F) c d

theorem off4_4 (c : Dev nD) : k0_off4 c 4#32 = chunk c := by revert c; decide

theorem wp_before (c : Dev nD) (d : Fin 2) (u : Fin 8) (Q : PUnit → sProp 𝕄) :
    iprop(iprop(Know m ∗ flyO m c d u.val) ∗ OW c []) ⊢ iprop((iprop(FreeO (F := F) c d ∗ outPrev m c d u ∗ OW c []) -∗ Q ⟨⟩)
      -∗ WP c (if h : 0 < u.val then waitO d ⟨u.val - 1, Nat.lt_of_le_of_lt (Nat.sub_le _ _) u.isLt⟩ else pure ⟨⟩) Q) := by
  unfold flyO outPrev OutAt
  have hu := u.isLt
  by_cases h : 0 < u.val
  · rw [dif_pos h, dif_pos h, dif_pos ⟨h, by omega⟩]
    iintro ⟨⟨#HK, Hf⟩, HO⟩ Hk
    iapply (wp_waitO m c d _) $$ [Hf HO]
    · isplitr; · iexact HK
      isplitl [Hf]; · iexact Hf
      iexact HO
    iexact Hk
  · rw [dif_neg h, dif_neg h, dif_neg (fun h' => h h'.1)]
    iintro ⟨⟨-, Hf⟩, HO⟩ Hk
    iapply (WP_ret c)
    iapply Hk
    isplitl [Hf]; · iexact Hf
    isplitr; · iempintro
    iexact HO

theorem wp_pairL (c : Dev nD) (u : Fin 8) (Q : PUnit → sProp 𝕄) :
    iprop((Know m ∗ At c (x8P c) (x8v m c c) ∗ flyO m c 0 u.val ∗ flyO m c 1 u.val ∗ OW c []) ∗ (preL m c 0 u ∗ preL m c 1 u))
      ⊢ iprop((iprop((Know m ∗ At c (x8P c) (x8v m c c) ∗ flyO m c 0 (u.val + 1) ∗ flyO m c 1 (u.val + 1) ∗ OW c []) ∗ (postL m c 0 u ∗ postL m c 1 u)) -∗ Q ⟨⟩)
        -∗ WP c (pairL c (k0_pay1 (sc0 m c) (sc1 m c)) u) Q) := by
  have hu := u.isLt
  have hf : ∀ d, flyO m c d (u.val + 1) = FlyO m c d u := fun d => dif_pos ⟨Nat.succ_pos _, by omega⟩
  rw [hf, hf]
  unfold preL postL pairL
  iintro ⟨⟨#HK, Hx, Hf0, Hf1, HO⟩, ⟨Ha0, Hb0, Hc0, Hd0, He0, Hg0⟩, ⟨Ha1, Hb1, Hc1, Hd1, He1, Hg1⟩⟩ Hk
  iapply (WP_bind c)
  iapply (wp_tileL m c 0 u _ _ _ (off4_4 c) (wp_before m c 0 u)) $$ [Hx Hf0 HO Ha0 Hb0 Hc0 Hd0 He0 Hg0]
  · isplitr; · iexact HK
    isplitl [Hx]; · iexact Hx
    isplitl [Ha0]; · iexact Ha0
    isplitl [Hf0]
    · isplitr; · iexact HK
      iexact Hf0
    isplitl [Hb0]; · iexact Hb0
    isplitl [Hc0]; · iexact Hc0
    isplitl [Hd0]; · iexact Hd0
    isplitl [He0]; · iexact He0
    isplitl [Hg0]; · iexact Hg0
    iexact HO
  iintro ⟨Hx, Ha0, Ho0, Hf0, Hs0, Hs0', He0, Hg0, HO⟩
  iapply (wp_tileL m c 1 u _ _ _ (off4_4 c) (wp_before m c 1 u)) $$ [Hx Hf1 HO Ha1 Hb1 Hc1 Hd1 He1 Hg1]
  · isplitr; · iexact HK
    isplitl [Hx]; · iexact Hx
    isplitl [Ha1]; · iexact Ha1
    isplitl [Hf1]
    · isplitr; · iexact HK
      iexact Hf1
    isplitl [Hb1]; · iexact Hb1
    isplitl [Hc1]; · iexact Hc1
    isplitl [Hd1]; · iexact Hd1
    isplitl [He1]; · iexact He1
    isplitl [Hg1]; · iexact Hg1
    iexact HO
  iintro ⟨Hx, Ha1, Ho1, Hf1, Hs1, Hs1', He1, Hg1, HO⟩
  iapply Hk
  isplitl [Hx Hf0 Hf1 HO]
  · isplitr; · iexact HK
    isplitl [Hx]; · iexact Hx
    isplitl [Hf0]; · iexact Hf0
    isplitl [Hf1]; · iexact Hf1
    iexact HO
  isplitl [Ha0 Ho0 Hs0 Hs0' He0 Hg0]
  · isplitl [Ha0]; · iexact Ha0
    isplitl [Ho0]; · iexact Ho0
    isplitl [Hs0]; · iexact Hs0
    isplitl [Hs0']; · iexact Hs0'
    isplitl [He0]; · iexact He0
    iexact Hg0
  · isplitl [Ha1]; · iexact Ha1
    isplitl [Ho1]; · iexact Ho1
    isplitl [Hs1]; · iexact Hs1
    isplitl [Hs1']; · iexact Hs1'
    isplitl [He1]; · iexact He1
    iexact Hg1

end Cert.KernelIdealProof
-- ==== Proof.KernelIdeal.Pieces.lean ====
/-
How a device's buffers fall into the tiles' pieces, and what it starts from and ends with.
-/
module

public import proofs.«01_k».proof.Proof.KernelIdeal.Loops

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Transfers (Flight)

local notation "𝕄" => MT nD τ sig ℕ (Elt F) ℕ UU ℕ

variable (m : (ℓ : Loc nD τ sig) → Buf (Elt F) ℓ)

/-! ## How the buffers fall into pieces -/

theorem rCol_disjoint (t t' : Fin 2 × Fin 8) (h : t ≠ t') : Disjoint (rCol t.1 t.2).set (rCol t'.1 t'.2).set := by
  refine Rect.unit_disjoint (1 : Fin 2) ?_
  show col t.1 t.2 + 512 ≤ col t'.1 t'.2 ∨ col t'.1 t'.2 + 512 ≤ col t.1 t.2
  revert t t'; decide
theorem rCol_cover (i : S1024x8192.Idx) : ∃ t : Fin 2 × Fin 8, i ∈ (rCol t.1 t.2).set := by
  have h0 : (i 0).val < 1024 := (i 0).isLt
  have h1 : (i 1).val < 8192 := (i 1).isLt
  refine ⟨(⟨(i 1).val / 4096, by omega⟩, ⟨(i 1).val % 4096 / 512, by omega⟩), Rect.mem_set_unit.mpr fun a => ?_⟩
  fin_cases a
  · exact ⟨Nat.zero_le _, h0⟩
  · show (i 1).val / 4096 * 4096 + (i 1).val % 4096 / 512 * 512 ≤ (i 1).val ∧ (i 1).val < (i 1).val / 4096 * 4096 + (i 1).val % 4096 / 512 * 512 + 512
    omega

theorem rBuf_disjoint (d d' : Fin 2) (h : d ≠ d') : Disjoint (rBuf d).set (rBuf d').set := by
  refine Rect.unit_disjoint (0 : Fin 3) ?_
  show d.val + 1 ≤ d'.val ∨ d'.val + 1 ≤ d.val
  have := Fin.val_ne_of_ne h
  omega
theorem rBuf_cover (i : S2x1024x512.Idx) : ∃ d : Fin 2, i ∈ (rBuf d).set := by
  refine ⟨⟨(i 0).val, (i 0).isLt⟩, Rect.mem_set_unit.mpr fun a => ?_⟩
  have h1 : (i 1).val < 1024 := (i 1).isLt
  have h2 : (i 2).val < 512 := (i 2).isLt
  fin_cases a
  · exact ⟨Nat.le_refl _, Nat.lt_succ_self _⟩
  · exact ⟨Nat.zero_le _, by show (i 1).val < 0 + 1024; omega⟩
  · exact ⟨Nat.zero_le _, by show (i 2).val < 0 + 512; omega⟩

theorem rCm_disjoint (t t' : Fin 2 × Fin 2 × Fin 8) (h : t ≠ t') : Disjoint (rCm t.1 t.2.1 t.2.2).set (rCm t'.1 t'.2.1 t'.2.2).set := by
  obtain ⟨d, j, u⟩ := t
  obtain ⟨d', j', u'⟩ := t'
  by_cases h0 : d = d'
  · by_cases h1 : j = j'
    · have h2 : u ≠ u' := fun h2 => h (by rw [h0, h1, h2])
      refine Rect.unit_disjoint (2 : Fin 5) ?_
      show u.val + 1 ≤ u'.val ∨ u'.val + 1 ≤ u.val
      have := Fin.val_ne_of_ne h2; omega
    · refine Rect.unit_disjoint (1 : Fin 5) ?_
      show j.val + 1 ≤ j'.val ∨ j'.val + 1 ≤ j.val
      have := Fin.val_ne_of_ne h1; omega
  · refine Rect.unit_disjoint (0 : Fin 5) ?_
    show d.val + 1 ≤ d'.val ∨ d'.val + 1 ≤ d.val
    have := Fin.val_ne_of_ne h0; omega
theorem rCm_cover (i : S2x2x8x1024x512.Idx) : ∃ t : Fin 2 × Fin 2 × Fin 8, i ∈ (rCm t.1 t.2.1 t.2.2).set := by
  refine ⟨(⟨(i 0).val, (i 0).isLt⟩, ⟨(i 1).val, (i 1).isLt⟩, ⟨(i 2).val, (i 2).isLt⟩), Rect.mem_set_unit.mpr fun a => ?_⟩
  have h3 : (i 3).val < 1024 := (i 3).isLt
  have h4 : (i 4).val < 512 := (i 4).isLt
  fin_cases a
  · exact ⟨Nat.le_refl _, Nat.lt_succ_self _⟩
  · exact ⟨Nat.le_refl _, Nat.lt_succ_self _⟩
  · exact ⟨Nat.le_refl _, Nat.lt_succ_self _⟩
  · exact ⟨Nat.zero_le _, by show (i 3).val < 0 + 1024; omega⟩
  · exact ⟨Nat.zero_le _, by show (i 4).val < 0 + 512; omega⟩

theorem rX_disjoint (k k' : Fin 4) (h : k ≠ k') : Disjoint (rX (chunk k) (inbX k)).set (rX (chunk k') (inbX k')).set := by
  refine Rect.unit_disjoint (0 : Fin 2) ?_
  show 1024 * k.val + 1024 ≤ 1024 * k'.val ∨ 1024 * k'.val + 1024 ≤ 1024 * k.val
  have := Fin.val_ne_of_ne h; omega
theorem rX_cover (i : S4096x1024.Idx) : ∃ k : Fin 4, i ∈ (rX (chunk k) (inbX k)).set := by
  have h0 : (i 0).val < 4096 := (i 0).isLt
  have h1 : (i 1).val < 1024 := (i 1).isLt
  refine ⟨⟨(i 0).val / 1024, by omega⟩, Rect.mem_set_unit.mpr fun a => ?_⟩
  fin_cases a
  · show 1024 * ((i 0).val / 1024) ≤ (i 0).val ∧ (i 0).val < 1024 * ((i 0).val / 1024) + 1024
    omega
  · exact ⟨Nat.zero_le _, by show (i 1).val < 0 + 1024; omega⟩

/-! ## Families over the tiles -/

/-- For every pair of tiles, both. -/
def pairs (Φ : Fin 2 → Fin 8 → sProp 𝕄) : sProp 𝕄 := bigSep Finset.univ fun u : Fin 8 => iprop(Φ 0 u ∗ Φ 1 u)

theorem two (Φ : Fin 2 → sProp 𝕄) : bigSep Finset.univ Φ = iprop(Φ 0 ∗ Φ 1) := bigSep_univ_eq_bigSepL [0, 1] (by decide) (by decide) Φ

theorem pairs_prod (Φ : Fin 2 → Fin 8 → sProp 𝕄) : bigSep Finset.univ (fun t : Fin 2 × Fin 8 => Φ t.1 t.2) = pairs Φ := by
  rw [bigSep_univ_prod, two, ← bigSep_sep']; rfl
theorem pairs_dir (Φ : Fin 2 → Fin 8 → sProp 𝕄) : pairs Φ = iprop(bigSep Finset.univ (Φ 0) ∗ bigSep Finset.univ (Φ 1)) := bigSep_sep' _ _ _
theorem pairs_sep (Φ Ψ : Fin 2 → Fin 8 → sProp 𝕄) : pairs (fun d u => iprop(Φ d u ∗ Ψ d u)) = iprop(pairs Φ ∗ pairs Ψ) := by
  rw [← pairs_prod, ← pairs_prod, ← pairs_prod, ← bigSep_sep']
theorem pairs_mono {Φ Ψ : Fin 2 → Fin 8 → sProp 𝕄} (h : ∀ d u, Φ d u ⊢ Ψ d u) : pairs Φ ⊢ pairs Ψ := by
  rw [← pairs_prod, ← pairs_prod]; exact bigSep_mono fun t _ => h t.1 t.2
theorem pairs_with {R : sProp 𝕄} [BI.Persistent R] {Φ Ψ : Fin 2 → Fin 8 → sProp 𝕄} (h : ∀ d u, iprop(R ∗ Φ d u) ⊢ Ψ d u) :
    iprop(R ∗ pairs Φ) ⊢ pairs Ψ := by
  rw [← pairs_prod, ← pairs_prod]
  exact (sep_mono_left (BI.bigSep_of_persistent Finset.univ R)).trans (by rw [← bigSep_sep']; exact bigSep_mono fun t _ => h t.1 t.2)

/-- A family over the slots. -/
theorem slots_pairs (Φ : Fin 2 → Fin 2 → Fin 8 → sProp 𝕄) :
    bigSep Finset.univ (fun t : Fin 2 × Fin 2 × Fin 8 => Φ t.1 t.2.1 t.2.2) = iprop(pairs (fun d u => Φ d 0 u) ∗ pairs (fun d u => Φ d 1 u)) := by
  rw [bigSep_univ_prod, two, ← bigSep_sep', bigSep_univ_prod, two, bigSep_sep', bigSep_sep', pairs_dir, pairs_dir]

/-- The four row chunks, in the order device `c` comes to them. -/
theorem chunks (c : Dev nD) (Φ : Fin 4 → sProp 𝕄) :
    bigSep Finset.univ Φ = iprop(Φ (chunkAt 0 0 c) ∗ Φ (chunkAt 0 1 c) ∗ Φ (chunkAt 1 0 c) ∗ Φ c) :=
  bigSep_univ_eq_bigSepL [chunkAt 0 0 c, chunkAt 0 1 c, chunkAt 1 0 c, c] (by revert c; decide) (by revert c; decide) Φ

/-- The columns of `w` as the loop over the first steps takes them: tile 0 of direction 0 is under way before it. -/
theorem wPc_shift (c : Dev nD) : bigSep Finset.univ (wPc m c 0) ⊢ iprop(wPc m c 0 0 ∗ bigSep Finset.univ (wNext m c)) := by
  rw [over_us, over_us]
  show iprop(wPc m c 0 0 ∗ wPc m c 0 1 ∗ wPc m c 0 2 ∗ wPc m c 0 3 ∗ wPc m c 0 4 ∗ wPc m c 0 5 ∗ wPc m c 0 6 ∗ wPc m c 0 7)
    ⊢ iprop(wPc m c 0 0 ∗ wPc m c 0 1 ∗ wPc m c 0 2 ∗ wPc m c 0 3 ∗ wPc m c 0 4 ∗ wPc m c 0 5 ∗ wPc m c 0 6 ∗ wPc m c 0 7 ∗ emp)
  iintro ⟨H0, H1, H2, H3, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iempintro
/-- The finished tiles as the loop over the last steps leaves them. -/
theorem out_shift (c : Dev nD) (d : Fin 2) : iprop(bigSep Finset.univ (outPrev m c d) ∗ OutAt m c d 7) ⊢ bigSep Finset.univ (OutAt m c d) := by
  rw [over_us, over_us]
  show iprop((emp ∗ OutAt m c d 0 ∗ OutAt m c d 1 ∗ OutAt m c d 2 ∗ OutAt m c d 3 ∗ OutAt m c d 4 ∗ OutAt m c d 5 ∗ OutAt m c d 6) ∗ OutAt m c d 7)
    ⊢ iprop(OutAt m c d 0 ∗ OutAt m c d 1 ∗ OutAt m c d 2 ∗ OutAt m c d 3 ∗ OutAt m c d 4 ∗ OutAt m c d 5 ∗ OutAt m c d 6 ∗ OutAt m c d 7)
  iintro ⟨⟨-, H0, H1, H2, H3, H4, H5, H6⟩, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## What a device starts from and what it ends with -/

/-- Its part in the protocol, a tile at a time. -/
def Gh (c : Dev nD) (d : Fin 2) (u : Fin 8) : sProp 𝕄 :=
  iprop(TokA (F := F) c d u ∗ TokH (F := F) c 0 1 d u ∗ TokH (F := F) c 1 0 d u ∗ atPos ER (credC c d u) 0 ∅ 0 ∗ cred (tallyAt (recvC c d 1 u) 1 N))
/-- Its part in the barrier. -/
def GhBar (c : Dev nD) : sProp 𝕄 :=
  iprop(atPos ER (barC c) 0 ∅ 0 ∗ dutyTok ER (barC (ups 0 c)) 0 0 ∗ dutyTok ER (barC (ups 1 c)) 0 1 ∗ cred (tallyAt (barC c) 0 2))

/-- All it owes at the start. -/
def evs : List Ev := .bar 0 :: .bar 1 :: ahead 0 evA (ahead 0 (evH 0) (ahead 0 (evH 1) []))

/-- A buffer at some contents. -/
def Some' (c : Dev nD) (b : Ref sig .tc) : sProp 𝕄 := iprop(∃ f, ((c : Thread nD τ).loc b) ↦{fullShare} f)

/-- The scratch buffers. -/
def Scr (c : Dev nD) : sProp 𝕄 :=
  iprop(Some' (F := F) c cc0_scratch0 ∗ Some' (F := F) c cc0_scratch1 ∗ Some' (F := F) c cc0_scratch2 ∗ Some' (F := F) c cc0_scratch3
    ∗ Some' (F := F) c cc0_scratch4 ∗ Some' (F := F) c cc0_scratch5)
/-- The arguments in main memory. -/
def Arg (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1)))
/-- The result, computed. -/
def Res (c : Dev nD) : sProp 𝕄 :=
  iprop(∃ f, ⌜∀ (d : Fin 2) (u : Fin 8), (oV d u).view.read (Elt F) f = outTile m c d u⌝ ∗ ((c : Thread nD τ).loc main_v1) ↦{fullShare} f)
/-- The semaphores of the local copies. -/
def SemLocal (c : Dev nD) : sProp 𝕄 :=
  iprop(semVal ((c : Thread nD τ), .dma (outS 0)) 0 ∗ semVal ((c : Thread nD τ), .dma (outS 1)) 0 ∗ semVal ((c : Thread nD τ), .dma (wsS 0)) 0
    ∗ semVal ((c : Thread nD τ), .dma (wsS 1)) 0 ∗ semVal ((c : Thread nD τ), .dma xsS) 0)
/-- The semaphores of a tile. -/
def SemTile (c : Dev nD) (d : Fin 2) (u : Fin 8) : sProp 𝕄 :=
  iprop(semVal (sendC c d 0 u) 0 ∗ semVal (sendC c d 1 u) 0 ∗ semVal (recvC c d 0 u) 0 ∗ semVal (recvC c d 1 u) 0 ∗ semVal (credC c d u) 0)

/-! ### Buffers and pieces -/

theorem cutX (c : Dev nD) : (((c : Thread nD τ).loc main_arg0) ↦{fullShare} m ((c : Thread nD τ).loc main_arg0) : sProp 𝕄) = bigSep Finset.univ (xPc m c) :=
  Ring.pointsTo_blocks (piece c main_arg0 fun k : Fin 4 => rX (chunk k) (inbX k)) (piece_disjoint c _ _ rX_disjoint) (piece_cover c _ _ rX_cover) _
theorem cutW (c : Dev nD) : (((c : Thread nD τ).loc main_arg1) ↦{fullShare} m ((c : Thread nD τ).loc main_arg1) : sProp 𝕄) = pairs (wPc m c) := by
  rw [← pairs_prod]
  exact Ring.pointsTo_blocks (piece c main_arg1 fun t : Fin 2 × Fin 8 => rCol t.1 t.2) (piece_disjoint c _ _ rCol_disjoint) (piece_cover c _ _ rCol_cover) _
theorem cutOut (c : Dev nD) : (Some' (F := F) c main_v1 : sProp 𝕄) ⊢ pairs fun d u => Any (F := F) c (oV d u).view := by
  rw [← pairs_prod]
  exact cut_any c main_v1 (fun t : Fin 2 × Fin 8 => rCol t.1 t.2) rCol_disjoint rCol_cover
theorem joinOut (c : Dev nD) (f₀ : Buf (Elt F) ((c : Thread nD τ).loc main_v1)) : pairs (OutAt m c) ⊢ (Res m c : sProp 𝕄) := by
  rw [← pairs_prod]
  refine (join_at c main_v1 (fun t : Fin 2 × Fin 8 => rCol t.1 t.2) rCol_disjoint rCol_cover (fun t => outTile m c t.1 t.2) f₀).trans ?_
  unfold Res
  iintro ⟨%f, %hf, H⟩
  iexists f
  isplitr
  · ipureintro; exact fun d u => hf (d, u)
  iexact H
theorem cutC (c : Dev nD) : (Some' (F := F) c cc0_scratch0 : sProp 𝕄)
    ⊢ iprop(pairs (fun d u => Any (F := F) c (slot d 0 u)) ∗ pairs (fun d u => Any (F := F) c (slot d 1 u))) := by
  rw [← slots_pairs fun d j u => Any (F := F) c (slot d j u)]
  exact cut_any c cc0_scratch0 (fun t : Fin 2 × Fin 2 × Fin 8 => rCm t.1 t.2.1 t.2.2) rCm_disjoint rCm_cover
theorem joinC (c : Dev nD) (f₀ : Buf (Elt F) ((c : Thread nD τ).loc cc0_scratch0)) :
    iprop(pairs (fun d u => Any (F := F) c (slot d 0 u)) ∗ pairs (fun d u => Any (F := F) c (slot d 1 u))) ⊢ (Some' (F := F) c cc0_scratch0 : sProp 𝕄) := by
  rw [← slots_pairs fun d j u => Any (F := F) c (slot d j u)]
  exact join_any c cc0_scratch0 (fun t : Fin 2 × Fin 2 × Fin 8 => rCm t.1 t.2.1 t.2.2) rCm_disjoint rCm_cover f₀
theorem cut8 (c : Dev nD) : (Some' (F := F) c cc0_scratch1 : sProp 𝕄) ⊢ bigSep Finset.univ fun k => Any (F := F) c (x8P k) :=
  cut_any c cc0_scratch1 (fun k : Fin 4 => rX (chunk k) (inbX k)) rX_disjoint rX_cover
theorem join8 (c : Dev nD) (f₀ : Buf (Elt F) ((c : Thread nD τ).loc cc0_scratch1)) : (bigSep Finset.univ fun k => Any (F := F) c (x8P k)) ⊢ (Some' (F := F) c cc0_scratch1 : sProp 𝕄) :=
  join_any c cc0_scratch1 (fun k : Fin 4 => rX (chunk k) (inbX k)) rX_disjoint rX_cover f₀
theorem cutW8 (c : Dev nD) : (Some' (F := F) c cc0_scratch3 : sProp 𝕄) ⊢ pairs fun d u => Any (F := F) c (w8P d u) := by
  rw [← pairs_prod]
  exact cut_any c cc0_scratch3 (fun t : Fin 2 × Fin 8 => rCol t.1 t.2) rCol_disjoint rCol_cover
theorem joinW8 (c : Dev nD) (f₀ : Buf (Elt F) ((c : Thread nD τ).loc cc0_scratch3)) : (pairs fun d u => Any (F := F) c (w8P d u)) ⊢ (Some' (F := F) c cc0_scratch3 : sProp 𝕄) := by
  rw [← pairs_prod]
  exact join_any c cc0_scratch3 (fun t : Fin 2 × Fin 8 => rCol t.1 t.2) rCol_disjoint rCol_cover f₀
theorem cutWs (c : Dev nD) : (Some' (F := F) c cc0_scratch4 : sProp 𝕄) ⊢ iprop(Any (F := F) c (wsM.access (rBuf 0)) ∗ Any (F := F) c (wsM.access (rBuf 1))) := by
  rw [← two fun d => Any (F := F) c (wsM.access (rBuf d))]
  exact cut_any c cc0_scratch4 rBuf rBuf_disjoint rBuf_cover
theorem joinWs (c : Dev nD) (f₀ : Buf (Elt F) ((c : Thread nD τ).loc cc0_scratch4)) :
    iprop(Any (F := F) c (wsM.access (rBuf 0)) ∗ Any (F := F) c (wsM.access (rBuf 1))) ⊢ (Some' (F := F) c cc0_scratch4 : sProp 𝕄) := by
  rw [← two fun d => Any (F := F) c (wsM.access (rBuf d))]
  exact join_any c cc0_scratch4 rBuf rBuf_disjoint rBuf_cover f₀
theorem cutSt (c : Dev nD) : (Some' (F := F) c cc0_scratch5 : sProp 𝕄) ⊢ iprop(Any (F := F) c (stM.access (rBuf 0)) ∗ Any (F := F) c (stM.access (rBuf 1))) := by
  rw [← two fun d => Any (F := F) c (stM.access (rBuf d))]
  exact cut_any c cc0_scratch5 rBuf rBuf_disjoint rBuf_cover
theorem joinSt (c : Dev nD) (f₀ : Buf (Elt F) ((c : Thread nD τ).loc cc0_scratch5)) :
    iprop(Any (F := F) c (stM.access (rBuf 0)) ∗ Any (F := F) c (stM.access (rBuf 1))) ⊢ (Some' (F := F) c cc0_scratch5 : sProp 𝕄) := by
  rw [← two fun d => Any (F := F) c (stM.access (rBuf d))]
  exact join_any c cc0_scratch5 rBuf rBuf_disjoint rBuf_cover f₀
theorem some_xs (c : Dev nD) : (Some' (F := F) c cc0_scratch2 : sProp 𝕄) = Any (F := F) c xsM.view := by
  unfold Some' Any
  rw [show xsM.view.set = Finset.univ from View.set_whole cc0_scratch2]

end Cert.KernelIdealProof
-- ==== Proof.KernelIdeal.Body.lean ====
/-
The kernel from start to end on one device: the whole program put together from its loops.
-/
module

public import proofs.«01_k».proof.Proof.KernelIdeal.Pieces

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## From one loop to the next -/

theorem lendL (A B : sProp 𝕄) : Lends iprop(A ∗ B) A := by
  unfold Lends; iintro ⟨HA, HB⟩; isplitl [HA]; · iexact HA
  iintro HA; isplitl [HA]; · iexact HA
  iexact HB
theorem lendR (A B : sProp 𝕄) : Lends iprop(A ∗ B) B := by
  unfold Lends; iintro ⟨HA, HB⟩; isplitl [HB]; · iexact HB
  iintro HB; isplitl [HA]; · iexact HA
  iexact HB
theorem lend1 (A : sProp 𝕄) : Lends A A := by
  unfold Lends; iintro HA; isplitl [HA]; · iexact HA
  iintro HA; iexact HA

theorem Gh_split (c : Dev nD) : pairs (Gh (F := F) c)
    = iprop(pairs (TokA (F := F) c) ∗ pairs (TokH (F := F) c 0 1) ∗ pairs (TokH (F := F) c 1 0) ∗ pairs (fun d u => atPos ER (credC c d u) 0 ∅ 0)
      ∗ pairs (fun d u => cred (tallyAt (recvC c d 1 u) 1 N))) := by
  rw [← pairs_sep, ← pairs_sep, ← pairs_sep, ← pairs_sep]; rfl

/-- Before the first loop. -/
theorem into_A (c : Dev nD) :
    iprop(pairs (wPc m c) ∗ pairs (fun d u => Any (F := F) c (w8P d u)) ∗ pairs (fun d u => Any (F := F) c (slot d 0 u))
        ∗ ((bigSep Finset.univ fun u : Fin 8 => Any (F := F) (dst 0 c) (slot 0 1 u)) ∗ bigSep Finset.univ fun u : Fin 8 => Any (F := F) (dst 1 c) (slot 1 1 u))
        ∗ pairs (TokA (F := F) c))
      ⊢ iprop(wPc m c 0 0 ∗ bigSep Finset.univ fun u => iprop(wPc m c 1 u ∗ wNext m c u ∗ preA (F := F) c 0 u ∗ preA (F := F) c 1 u)) := by
  rw [bigSep_sep', bigSep_sep', show (bigSep Finset.univ fun u => iprop(preA (F := F) c 0 u ∗ preA (F := F) c 1 u))
      = iprop(pairs (fun d u => Any (F := F) c (w8P d u)) ∗ pairs (fun d u => Any (F := F) c (slot d 0 u)) ∗ pairs (fun d u => Any (F := F) (dst d c) (slot d 1 u))
        ∗ pairs (TokA (F := F) c)) from by rw [← pairs_sep, ← pairs_sep, ← pairs_sep]; rfl, pairs_dir (wPc m c), pairs_dir fun d u => Any (F := F) (dst d c) (slot d 1 u)]
  iintro ⟨⟨Hw0, Hw1⟩, H8, Hs, Hd, Ht⟩
  ihave Hw0 := (wPc_shift m c) $$ Hw0
  icases Hw0 with ⟨Hw, Hn⟩
  isplitl [Hw]; · iexact Hw
  isplitl [Hw1]; · iexact Hw1
  isplitl [Hn]; · iexact Hn
  isplitl [H8]; · iexact H8
  isplitl [Hs]; · iexact Hs
  isplitl [Hd]; · iexact Hd
  iexact Ht
theorem from_A (c : Dev nD) : (bigSep Finset.univ fun u => iprop(wPc m c 0 u ∗ wPc m c 1 u ∗ postA m c 0 u ∗ postA m c 1 u))
    ⊢ iprop(pairs (wPc m c) ∗ pairs (postA m c)) := by
  rw [bigSep_sep', bigSep_sep', pairs_dir (wPc m c)]
  iintro ⟨H0, H1, H⟩
  isplitl [H0 H1]
  · isplitl [H0]; · iexact H0
    iexact H1
  iapply (show (bigSep Finset.univ fun u => iprop(postA m c 0 u ∗ postA m c 1 u)) ⊢ pairs (postA m c) from Entails.refl _) $$ H

/-- From the first steps to the middle ones, -/
theorem A_to_H (c : Dev nD) (d : Fin 2) (u : Fin 8) :
    iprop(Know m ∗ postA m c d u ∗ atPos ER (credC c d u) 0 ∅ 0 ∗ TokH (F := F) c 0 1 d u) ⊢ preH m c 0 1 d u := by
  unfold postA preH Mid
  iintro ⟨#HK, ⟨H8, Hc⟩, Ha, Ht⟩
  ihave #H1 := (know_recv m c d 0 u) $$ HK
  ihave #H2 := (know_send m c d 1 u) $$ HK
  icases H1 with ⟨-, #HR1⟩
  icases H2 with ⟨-, #HR2⟩
  isplitl [H8]; · iexact H8
  isplitl [Hc Ha]
  · isplitl [Hc]; · iexact Hc
    isplitl [Ha]; · iexact Ha
    isplitr; · iexact HR1
    iexact HR2
  iexact Ht
/-- from those to the next, -/
theorem H_to_H (c : Dev nD) (d : Fin 2) (u : Fin 8) :
    iprop(postH m c 0 1 d u ∗ TokH (F := F) c 1 0 d u) ⊢ iprop(preH m c 1 0 d u ∗ Left (F := F) c 0 1 d u) := by
  unfold postH preH
  iintro ⟨⟨H8, Hm, Hl⟩, Ht⟩
  ihave Hm := (show Mid' (F := F) c 0 1 d u ⊢ Mid (F := F) c 1 0 d u from Entails.refl _) $$ Hm
  isplitl [H8 Hm Ht]
  · isplitl [H8]; · iexact H8
    isplitl [Hm]; · iexact Hm
    iexact Ht
  iexact Hl
/-- and from those to the last. -/
theorem H_to_L (c : Dev nD) (d : Fin 2) (u : Fin 8) :
    iprop(postH m c 1 0 d u ∗ Left (F := F) c 0 1 d u ∗ Any (F := F) c (oV d u).view ∗ cred (tallyAt (recvC c d 1 u) 1 N))
      ⊢ iprop(preL m c d u ∗ atPos ER (credC c d u) 2 ∅ 0 ∗ Left (F := F) c 1 0 d u) := by
  unfold postH preL Mid'
  iintro ⟨⟨H8, ⟨Hc, Ha, -, -⟩, Hl⟩, Hl', Ho, Hr⟩
  ihave Hl' := (show Left (F := F) c 0 1 d u ⊢ iprop(atPos ER (sendC c d 0 u) 1 ∅ 0 ∗ atPos ER (recvC c d 1 u) 1 ∅ 0) from Entails.refl _) $$ Hl'
  icases Hl' with ⟨Hs, Hv⟩
  isplitl [H8 Hc Hs Hv Ho Hr]
  · isplitl [H8]; · iexact H8
    isplitl [Ho]; · iexact Ho
    isplitl [Hc]; · iexact Hc
    isplitl [Hr]; · iexact Hr
    isplitl [Hs]; · iexact Hs
    iexact Hv
  isplitl [Ha]; · iexact Ha
  iexact Hl

/-- The end: a tile's cells close. -/
theorem close_tile (c : Dev nD) (d : Fin 2) (u : Fin 8) :
    iprop(Know m ∗ (atPos ER (sendC c d 0 u) 2 ∅ 0 ∗ atPos ER (recvC c d 1 u) 2 ∅ 0) ∗ atPos ER (credC c d u) 2 ∅ 0 ∗ Left (F := F) c 1 0 d u)
      ⊢ (iprop(|={Set.univ}=> SemTile (F := F) c d u) : sProp 𝕄) := by
  unfold SemTile Left
  iintro ⟨#HK, ⟨Hs0, Hr1⟩, Hc, Hs1, Hr0⟩
  ihave #H1 := (know_send m c d 0 u) $$ HK
  ihave #H2 := (know_send m c d 1 u) $$ HK
  ihave #H3 := (know_recv m c d 0 u) $$ HK
  ihave #H4 := (know_recv m c d 1 u) $$ HK
  ihave #H5 := (know_cred m c d u) $$ HK
  icases H1 with ⟨#HI1, -⟩
  icases H2 with ⟨#HI2, -⟩
  icases H3 with ⟨#HI3, -⟩
  icases H4 with ⟨#HI4, -⟩
  icases H5 with ⟨#HI5, -⟩
  imod (close m c (kind_send d 0 u) (r := 2) (by exact Nat.le_refl 2)) $$ [Hs0] with Hs0
  · isplitr; · iexact HI1
    iexact Hs0
  imod (close m c (kind_send d 1 u) (r := 1) (by exact Nat.le_refl 1)) $$ [Hs1] with Hs1
  · isplitr; · iexact HI2
    iexact Hs1
  imod (close m c (kind_recv d 0 u) (r := 1) (by exact Nat.le_refl 1)) $$ [Hr0] with Hr0
  · isplitr; · iexact HI3
    iexact Hr0
  imod (close m c (kind_recv d 1 u) (r := 2) (by exact Nat.le_refl 2)) $$ [Hr1] with Hr1
  · isplitr; · iexact HI4
    iexact Hr1
  imod (close m c (kind_cred d u) (r := 2) (by exact Nat.le_refl 2)) $$ [Hc] with Hc
  · isplitr; · iexact HI5
    iexact Hc
  imodintro
  isplitl [Hs0]; · iexact Hs0
  isplitl [Hs1]; · iexact Hs1
  isplitl [Hr0]; · iexact Hr0
  isplitl [Hr1]; · iexact Hr1
  iexact Hc
theorem close_tiles (c : Dev nD) :
    iprop(Know m ∗ pairs (fun d u => iprop((atPos ER (sendC c d 0 u) 2 ∅ 0 ∗ atPos ER (recvC c d 1 u) 2 ∅ 0) ∗ atPos ER (credC c d u) 2 ∅ 0 ∗ Left (F := F) c 1 0 d u)))
      ⊢ (iprop(|={Set.univ}=> pairs (SemTile (F := F) c)) : sProp 𝕄) := by
  refine (pairs_with (Ψ := fun d u => iprop(|={Set.univ}=> SemTile (F := F) c d u)) (close_tile m c)).trans ?_
  rw [← pairs_prod, ← pairs_prod]
  exact bigSep_fupd _ _

theorem from_L (c : Dev nD) : pairs (postL m c)
    = iprop(pairs (fun d u => At c (w8P d u) (w8v m c d u)) ∗ pairs (outPrev m c) ∗ pairs (fun d u => Any (F := F) c (slot d 0 u))
      ∗ pairs (fun d u => Any (F := F) c (slot d 1 u)) ∗ pairs (fun d u => iprop(atPos ER (sendC c d 0 u) 2 ∅ 0 ∗ atPos ER (recvC c d 1 u) 2 ∅ 0))) := by
  rw [← pairs_sep, ← pairs_sep, ← pairs_sep, ← pairs_sep]; rfl

/-! ## The barrier -/

theorem wp_barSig (c : Dev nD) (d : Fin 2) (t : Dev nD) (ht : ups d c = t) {l : List Ev} {α : Type} {Q : α → sProp 𝕄} {k : PUnit → P F α} :
    iprop(Know m ∗ OW c (.bar d :: l) ∗ dutyTok ER (barC (ups d c)) 0 d ∗ bigSep Finset.univ fun u : Fin 8 => Any (F := F) c (slot d 1 u))
      ⊢ iprop((OW c l -∗ WP c (k ⟨⟩) Q) -∗ WP c (.op (.semSignal (t : Thread nD τ) barS 1) k) Q) := by
  subst ht
  iintro ⟨#HK, HO, Ht, Hs⟩ Hk
  ihave #H1 := (know_bar m (ups d c)) $$ HK
  icases H1 with ⟨#HI, #HR⟩
  iapply (wp_sig m c (e := .bar d) (t := ups d c) (r := 0) (dt := d) kind_bar (by decide) (Finset.mem_univ _) rfl rfl rfl rfl) $$ [HO Ht Hs]
  · isplitr; · iexact HI
    isplitl [HO]; · iexact HO
    isplitl [Ht]; · iexact Ht
    isplitl [Hs]
    · iapply (show (bigSep Finset.univ fun u : Fin 8 => Any (F := F) c (slot d 1 u)) ⊢ payOf m (ups d c) 0 d .bar from by
        show _ ⊢ bigSep Finset.univ fun u : Fin 8 => Any (F := F) (dst d (ups d c)) (slot d 1 u)
        rw [dst_ups])
      iexact Hs
    iexact HR
  iexact Hk

theorem ahead_lev (n : ℕ) (f : Fin 8 → List Ev) (rest : List Ev) (k : ℕ) (hf : ∀ u, ∀ e ∈ f u, k < e.lev) (hr : ∀ e ∈ rest, k < e.lev) : ∀ e ∈ ahead n f rest, k < e.lev := by
  intro e he
  rcases List.mem_append.mp he with he | he
  · obtain ⟨v, -, he⟩ := List.mem_flatMap.mp he
    exact hf v e he
  · exact hr e he
theorem evA_lev (u : Fin 8) : ∀ e ∈ evA u, 1 < e.lev := by
  intro e he
  simp only [evA, List.mem_cons, List.not_mem_nil, or_false] at he
  rcases he with rfl | rfl <;> simp only [Ev.lev] <;> omega
theorem evH_lev (i : Fin 2) (u : Fin 8) : ∀ e ∈ evH i u, 2 + 32 * i.val < e.lev := by
  intro e he
  have hs := Fin.val_succ i
  simp only [evH, List.mem_cons, List.not_mem_nil, or_false] at he
  rcases he with rfl | rfl | rfl | rfl <;> simp only [Ev.lev] <;> omega

theorem wp_barWait (c : Dev nD) {l : List Ev} (hl : ∀ e ∈ l, 1 < e.lev) {α : Type} {Q : α → sProp 𝕄} {k : PUnit → P F α} :
    iprop(Know m ∗ OW c l ∗ atPos ER (barC c) 0 ∅ 0 ∗ cred (tallyAt (barC c) 0 2))
      ⊢ iprop((iprop(OW c l ∗ semVal (barC c) 0
            ∗ ((bigSep Finset.univ fun u : Fin 8 => Any (F := F) (dst 0 c) (slot 0 1 u)) ∗ bigSep Finset.univ fun u : Fin 8 => Any (F := F) (dst 1 c) (slot 1 1 u)))
          -∗ WP c (k ⟨⟩) Q) -∗ WP c (.op (.semWait barS 2) k) Q) := by
  unfold OW
  iintro ⟨#HK, ⟨%W, HO⟩, Ha, Hc⟩ Hk
  ihave #H1 := (know_bar m c) $$ HK
  icases H1 with ⟨#HI, -⟩
  unfold Inv
  icases HI with ⟨%κ, #HI⟩
  iapply (Rounds.wp_wait_rest_token 𝒱₀ ER (sched m) (c : Thread nD τ) none (κ := κ) (wpE_semWait_eq 𝒱₀ (c : Thread nD τ) none Set.univ) (Set.mem_univ _) 0
      (O := owed c l) (W := W) (R := 0) (m := 0) (T := ∅) (by rw [Nat.zero_add, expect_bar m c])) $$ [Hc HO Ha]
  · isplitr; · iexact HI
    isplitl [Hc]; · iexact Hc
    isplitl [HO]; · iexact HO
    isplitr
    · iapply (mayWait c (.reg barS) 0 (by decide) l (by rw [kind_bar]; exact hl)); iapply (know_lev m); iexact HK
    iexact Ha
  iintro ⟨HO, Ha, -, Hp⟩
  ihave Hp := (Entails.of_eq (rest_bar m c)) $$ Hp
  imod (Rounds.cell_close ER (sched m) (Set.mem_univ κ) (fun h => h) (R := 0 + 1) fun r' h => duties_none m c kind_bar r' h) $$ [Ha] with Hz
  · isplitr; · iexact HI
    iexact Ha
  iapply Hk
  isplitl [HO]; · iexists _; iexact HO
  isplitl [Hz]; · iexact Hz
  iexact Hp

/-! ## The whole program -/

theorem off12 (c : Dev nD) : k0_off1 c = chunk (chunkAt 0 0 c) ∧ k0_off2 c = chunk (chunkAt 0 0 c) := by revert c; decide
theorem off34_1 (c : Dev nD) : k0_off3 c 1#32 = chunk (chunkAt 0 1 c) ∧ k0_off4 c 1#32 = chunk (chunkAt 0 1 c) := by revert c; decide
theorem off34_2 (c : Dev nD) : k0_off3 c 2#32 = chunk (chunkAt 1 0 c) ∧ k0_off4 c 2#32 = chunk (chunkAt 1 0 c) := by revert c; decide
theorem off67 (c : Dev nD) : k0_off6 c = chunk c ∧ k0_off7 c = chunk c := by revert c; decide
theorem offH0 (c : Dev nD) : k0_off4 c 6#32 = chunk (chunkAt (0 : Fin 2).succ 0 c) ∧ k0_off4 c 2#32 = chunk (chunkAt (0 : Fin 2).succ 1 c) := by revert c; decide
theorem offH1 (c : Dev nD) : k0_off4 c 5#32 = chunk (chunkAt (1 : Fin 2).succ 0 c) ∧ k0_off4 c 3#32 = chunk (chunkAt (1 : Fin 2).succ 1 c) := by revert c; decide
theorem chunkAt_1 (c : Dev nD) (d : Fin 2) : chunkAt (0 : Fin 2).succ d c = chunkAt 1 0 c := by revert c d; decide
theorem chunkAt_2_0 (c : Dev nD) : chunkAt (1 : Fin 2).succ 0 c = chunkAt 0 1 c := by revert c; decide
theorem chunkAt_2_1 (c : Dev nD) : chunkAt (1 : Fin 2).succ 1 c = chunkAt 0 0 c := by revert c; decide

abbrev rS : Rect S1 := Rect.unit (s := S1) ![0] S1.size inb_S1_S1_0

/-- What a device starts from, -/
def Start (c : Dev nD) : sProp 𝕄 :=
  iprop(Know m ∗ Arg m c ∗ Some' (F := F) c main_v1 ∗ Scr (F := F) c ∗ SemLocal (F := F) c ∗ GhBar (F := F) c ∗ pairs (Gh (F := F) c))
/-- and what it ends with. -/
def Finish (c : Dev nD) : sProp 𝕄 :=
  iprop(Arg m c ∗ Res m c ∗ Scr (F := F) c ∗ SemLocal (F := F) c ∗ semVal (barC c) 0 ∗ pairs (SemTile (F := F) c))

set_option maxHeartbeats 1600000 in
theorem wp_prog (c : Dev nD) (f0 : Buf (Elt F) ((c : Thread nD τ).loc cc0_stg0_0)) (f1 : Buf (Elt F) ((c : Thread nD τ).loc cc0_stg1_0))
    (h0 : ∀ x, (s0M.access rS : View sig .tc .smem S1 .f32).read (Elt F) f0 x = sc0 m c)
    (h1 : ∀ x, (s1M.access rS : View sig .tc .smem S1 .f32).read (Elt F) f1 x = sc1 m c) {Q : PUnit → sProp 𝕄} :
    iprop(Start m c ∗ (((c : Thread nD τ).loc cc0_stg0_0) ↦{fullShare} f0) ∗ (((c : Thread nD τ).loc cc0_stg1_0) ↦{fullShare} f1) ∗ OW c evs)
      ⊢ iprop((iprop(Finish m c ∗ (((c : Thread nD τ).loc cc0_stg0_0) ↦{fullShare} f0) ∗ (((c : Thread nD τ).loc cc0_stg1_0) ↦{fullShare} f1) ∗ OW c []) -∗ Q ⟨⟩)
        -∗ WP c prog Q) := by
  unfold Start Arg Scr SemLocal GhBar prog
  rw [cutX, cutW, Gh_split]
  simp only [semSignalWord, semWaitWord, smemLoad, smemLoadElt, Prog.lift, Prog.bind_op, Prog.bind_ret, Prog.pure_eq_ret, wp_deviceId]
  iintro ⟨⟨#HK, ⟨Hax, Haw⟩, Hout, ⟨HC, H8, Hxs, HW8, HWs, HSt⟩, ⟨Ho0, Ho1, Hws0, Hws1, Hxsem⟩, ⟨HaB, HtB0, HtB1, HcB⟩, ⟨HtA, HtH0, HtH1, HaC, HcR⟩⟩, Hs0, Hs1, HO⟩ Hk
  -- the scales
  iapply (wp_load_rect 𝒱₀ (c : Thread nD τ) none Set.univ (m := s0M) (r := rS) (Finset.subset_univ _)) $$ Hs0; iintro Hs0
  iapply (wp_load_rect 𝒱₀ (c : Thread nD τ) none Set.univ (m := s1M) (r := rS) (Finset.subset_univ _)) $$ Hs1; iintro Hs1
  rw [h0, h1]
  -- the barrier: each neighbour gets this device's slots that its direction's hops arrive in
  ihave HC := (cutC c) $$ HC
  icases HC with ⟨HC0, HC1⟩
  ihave HC1 := (Entails.of_eq (pairs_dir fun d u => Any (F := F) c (slot d 1 u))) $$ HC1
  icases HC1 with ⟨HC10, HC11⟩
  iapply (wp_barSig m c 0 (lft c) ((lft_eq c).symm ▸ rfl) (l := .bar 1 :: ahead 0 evA (ahead 0 (evH 0) (ahead 0 (evH 1) [])))) $$ [HO HtB0 HC10]
  · isplitr; · iexact HK
    isplitl [HO]; · iexact HO
    isplitl [HtB0]; · iexact HtB0
    iexact HC10
  iintro HO
  iapply (wp_barSig m c 1 (rgt c) ((rgt_eq c).symm ▸ rfl) (l := ahead 0 evA (ahead 0 (evH 0) (ahead 0 (evH 1) [])))) $$ [HO HtB1 HC11]
  · isplitr; · iexact HK
    isplitl [HO]; · iexact HO
    isplitl [HtB1]; · iexact HtB1
    iexact HC11
  iintro HO
  iapply (wp_barWait m c (l := ahead 0 evA (ahead 0 (evH 0) (ahead 0 (evH 1) [])))
      (ahead_lev _ _ _ _ evA_lev (ahead_lev _ _ _ _ (fun u e he => Nat.lt_of_le_of_lt (by decide) (evH_lev 0 u e he))
        (ahead_lev _ _ _ _ (fun u e he => Nat.lt_of_le_of_lt (by decide) (evH_lev 1 u e he)) (fun e he => absurd he List.not_mem_nil))))) $$ [HO HaB HcB]
  · isplitr; · iexact HK
    isplitl [HO]; · iexact HO
    isplitl [HaB]; · iexact HaB
    iexact HcB
  iintro ⟨HO, HzB, HD1⟩
  -- the buffers' pieces
  ihave HW8 := (cutW8 c) $$ HW8
  ihave HA := (into_A m c) $$ [Haw HW8 HC0 HD1 HtA]
  · isplitl [Haw]; · iexact Haw
    isplitl [HW8]; · iexact HW8
    isplitl [HC0]; · iexact HC0
    isplitl [HD1]; · iexact HD1
    iexact HtA
  icases HA with ⟨Hw00, HA⟩
  ihave HWs := (cutWs c) $$ HWs
  icases HWs with ⟨HWs0, HWs1⟩
  ihave HSt := (cutSt c) $$ HSt
  icases HSt with ⟨HSt0, HSt1⟩
  ihave Hout := (cutOut c) $$ Hout
  ihave H8 := (cut8 c) $$ H8
  ihave H8 := (Entails.of_eq (chunks c fun k => Any (F := F) c (x8P k))) $$ H8
  icases H8 with ⟨H8a, H8b, H8c, H8d⟩
  ihave Hax := (Entails.of_eq (chunks c (xPc m c))) $$ Hax
  icases Hax with ⟨Hxa, Hxb, Hxc, Hxd⟩
  ihave Hxs := (Entails.of_eq (some_xs c)) $$ Hxs
  ihave HX := (show iprop(Any (F := F) c xsM.view ∗ semVal ((c : Thread nD τ), .dma xsS) 0) ⊢ FreeX (F := F) c from Entails.refl _) $$ [Hxs Hxsem]
  · isplitl [Hxs]; · iexact Hxs
    iexact Hxsem
  ihave HF0 := (show iprop(Any (F := F) c (wsM.access (rBuf 0)) ∗ semVal ((c : Thread nD τ), .dma (wsS 0)) 0) ⊢ FreeW (F := F) c 0 from Entails.refl _) $$ [HWs0 Hws0]
  · isplitl [HWs0]; · iexact HWs0
    iexact Hws0
  ihave HF1 := (show iprop(Any (F := F) c (wsM.access (rBuf 1)) ∗ semVal ((c : Thread nD τ), .dma (wsS 1)) 0) ⊢ FreeW (F := F) c 1 from Entails.refl _) $$ [HWs1 Hws1]
  · isplitl [HWs1]; · iexact HWs1
    iexact Hws1
  ihave HO0 := (show iprop(Any (F := F) c (stM.access (rBuf 0)) ∗ semVal ((c : Thread nD τ), .dma (outS 0)) 0) ⊢ flyO m c 0 0 from Entails.refl _) $$ [HSt0 Ho0]
  · isplitl [HSt0]; · iexact HSt0
    iexact Ho0
  ihave HO1 := (show iprop(Any (F := F) c (stM.access (rBuf 1)) ∗ semVal ((c : Thread nD τ), .dma (outS 1)) 0) ⊢ flyO m c 1 0 from Entails.refl _) $$ [HSt1 Ho1]
  · isplitl [HSt1]; · iexact HSt1
    iexact Ho1
  -- the first fetches
  iapply (WP_bind c)
  iapply (wp_fetchW m c 0 0) $$ [HF0 Hw00]
  · isplitl [HF0]; · iexact HF0
    iexact Hw00
  iintro HF0
  iapply (WP_bind c)
  iapply (wp_xconv m c (chunkAt 0 0 c) _ _ _ _ _ (off12 c).1 (off12 c).2) $$ [Hxa HX H8a HO]
  · isplitr; · iexact HK
    isplitl [Hxa]; · iexact Hxa
    isplitl [HX]; · iexact HX
    isplitl [H8a]; · iexact H8a
    iexact HO
  iintro ⟨Hxa, HX, H8a, HO⟩
  iapply (WP_bind c)
  iapply (wp_xconv m c (chunkAt 0 1 c) _ _ _ _ _ (off34_1 c).1 (off34_1 c).2) $$ [Hxb HX H8b HO]
  · isplitr; · iexact HK
    isplitl [Hxb]; · iexact Hxb
    isplitl [HX]; · iexact HX
    isplitl [H8b]; · iexact H8b
    iexact HO
  iintro ⟨Hxb, HX, H8b, HO⟩
  -- the first steps
  iapply (wp_over c (pairA c) _
      (fun n => iprop(Know m ∗ fly0 m c n ∗ FreeW (F := F) c 1
        ∗ (At c (x8P (chunkAt 0 0 c)) (x8v m c (chunkAt 0 0 c)) ∗ At c (x8P (chunkAt 0 1 c)) (x8v m c (chunkAt 0 1 c)))
        ∗ OW c (ahead n evA (ahead 0 (evH 0) (ahead 0 (evH 1) [])))))
      (fun u => iprop(wPc m c 1 u ∗ wNext m c u ∗ preA (F := F) c 0 u ∗ preA (F := F) c 1 u))
      (fun u => iprop(wPc m c 0 u ∗ wPc m c 1 u ∗ postA m c 0 u ∗ postA m c 1 u))
      (wp_pairA m c (fun d => match d with | 0 => lendL _ _ | 1 => lendR _ _) _)) $$ [HF0 HF1 H8a H8b HO HA]
  · isplitl [HF0 HF1 H8a H8b HO]
    · isplitr; · iexact HK
      isplitl [HF0]; · iapply (show FlyW m c 0 0 ⊢ fly0 m c 0 from Entails.refl _) $$ HF0
      isplitl [HF1]; · iexact HF1
      isplitl [H8a H8b]
      · isplitl [H8a]; · iexact H8a
        iexact H8b
      iexact HO
    iexact HA
  iintro ⟨⟨-, HF0, HF1, ⟨H8a, H8b⟩, HO⟩, HA⟩
  ihave HF0 := (show fly0 m c 8 ⊢ FreeW (F := F) c 0 from Entails.refl _) $$ HF0
  ihave HA := (from_A m c) $$ HA
  icases HA with ⟨Haw, HA⟩
  ihave HH := (pairs_with (R := Know m) (A_to_H m c)) $$ [HA HaC HtH0]
  · isplitr; · iexact HK
    rw [pairs_sep, pairs_sep]
    isplitl [HA]; · iexact HA
    isplitl [HaC]; · iexact HaC
    iexact HtH0
  iapply (WP_bind c)
  iapply (wp_xconv m c (chunkAt 1 0 c) _ _ _ _ _ (off34_2 c).1 (off34_2 c).2 (l := ahead 0 (evH 0) (ahead 0 (evH 1) []))) $$ [Hxc HX H8c HO]
  · isplitr; · iexact HK
    isplitl [Hxc]; · iexact Hxc
    isplitl [HX]; · iexact HX
    isplitl [H8c]; · iexact H8c
    iexact HO
  iintro ⟨Hxc, HX, H8c, HO⟩
  -- the second steps
  iapply (wp_over c (pairH0 c) _
      (fun n => iprop(Know m ∗ At c (x8P (chunkAt 1 0 c)) (x8v m c (chunkAt 1 0 c)) ∗ OW c (ahead n (evH 0) (ahead 0 (evH 1) []))))
      (fun u => iprop(preH m c 0 1 0 u ∗ preH m c 0 1 1 u)) (fun u => iprop(postH m c 0 1 0 u ∗ postH m c 0 1 1 u))
      (wp_pairH m c 0 1 rfl _ _ _ _ _ _ _ _ ((lft_eq c).symm ▸ rfl) ((rgt_eq c).symm ▸ rfl) ((rgt_eq c).symm ▸ rfl) ((lft_eq c).symm ▸ rfl)
        (offH0 c).1 (offH0 c).2 (fun d => by rw [chunkAt_1]; exact lend1 _) _
        (ahead_lev _ _ _ _ (fun u e he => Nat.lt_of_le_of_lt (by decide) (evH_lev 1 u e he)) (fun e he => absurd he List.not_mem_nil)))) $$ [H8c HO HH]
  · isplitl [H8c HO]
    · isplitr; · iexact HK
      isplitl [H8c]; · iexact H8c
      iexact HO
    iapply (show pairs (preH m c 0 1) ⊢ bigSep Finset.univ fun u => iprop(preH m c 0 1 0 u ∗ preH m c 0 1 1 u) from Entails.refl _) $$ HH
  iintro ⟨⟨-, H8c, HO⟩, HH⟩
  ihave HH := (show (bigSep Finset.univ fun u => iprop(postH m c 0 1 0 u ∗ postH m c 0 1 1 u)) ⊢ pairs (postH m c 0 1) from Entails.refl _) $$ HH
  ihave HH := (pairs_mono (H_to_H m c)) $$ [HH HtH1]
  · rw [pairs_sep]
    isplitl [HH]; · iexact HH
    iexact HtH1
  ihave HH := (Entails.of_eq (pairs_sep _ _)) $$ HH
  icases HH with ⟨HH, HL⟩
  iapply (WP_bind c)
  iapply (wp_xconv m c c _ _ _ _ _ (off67 c).1 (off67 c).2 (l := ahead 0 (evH 1) [])) $$ [Hxd HX H8d HO]
  · isplitr; · iexact HK
    isplitl [Hxd]; · iexact Hxd
    isplitl [HX]; · iexact HX
    isplitl [H8d]; · iexact H8d
    iexact HO
  iintro ⟨Hxd, HX, H8d, HO⟩
  -- the third steps
  iapply (wp_over c (pairH1 c) _
      (fun n => iprop(Know m ∗ (At c (x8P (chunkAt 0 0 c)) (x8v m c (chunkAt 0 0 c)) ∗ At c (x8P (chunkAt 0 1 c)) (x8v m c (chunkAt 0 1 c)))
        ∗ OW c (ahead n (evH 1) [])))
      (fun u => iprop(preH m c 1 0 0 u ∗ preH m c 1 0 1 u)) (fun u => iprop(postH m c 1 0 0 u ∗ postH m c 1 0 1 u))
      (wp_pairH m c 1 0 rfl _ _ _ _ _ _ _ _ ((lft_eq c).symm ▸ rfl) ((rgt_eq c).symm ▸ rfl) ((rgt_eq c).symm ▸ rfl) ((lft_eq c).symm ▸ rfl)
        (offH1 c).1 (offH1 c).2
        (fun d => match d with | 0 => by rw [chunkAt_2_0]; exact lendR _ _ | 1 => by rw [chunkAt_2_1]; exact lendL _ _) _
        (fun e he => absurd he List.not_mem_nil))) $$ [H8a H8b HO HH]
  · isplitl [H8a H8b HO]
    · isplitr; · iexact HK
      isplitl [H8a H8b]
      · isplitl [H8a]; · iexact H8a
        iexact H8b
      iexact HO
    iapply (show pairs (preH m c 1 0) ⊢ bigSep Finset.univ fun u => iprop(preH m c 1 0 0 u ∗ preH m c 1 0 1 u) from Entails.refl _) $$ HH
  iintro ⟨⟨-, ⟨H8a, H8b⟩, HO⟩, HH⟩
  ihave HH := (show (bigSep Finset.univ fun u => iprop(postH m c 1 0 0 u ∗ postH m c 1 0 1 u)) ⊢ pairs (postH m c 1 0) from Entails.refl _) $$ HH
  ihave HH := (pairs_mono (H_to_L m c)) $$ [HH HL Hout HcR]
  · rw [pairs_sep, pairs_sep, pairs_sep]
    isplitl [HH]; · iexact HH
    isplitl [HL]; · iexact HL
    isplitl [Hout]; · iexact Hout
    iexact HcR
  ihave HH := (Entails.of_eq (pairs_sep _ _)) $$ HH
  icases HH with ⟨HH, HL⟩
  -- the last steps
  iapply (wp_over c (pairL c (k0_pay1 (sc0 m c) (sc1 m c))) _
      (fun n => iprop(Know m ∗ At c (x8P c) (x8v m c c) ∗ flyO m c 0 n ∗ flyO m c 1 n ∗ OW c []))
      (fun u => iprop(preL m c 0 u ∗ preL m c 1 u)) (fun u => iprop(postL m c 0 u ∗ postL m c 1 u)) (wp_pairL m c)) $$ [H8d HO0 HO1 HO HH]
  · isplitl [H8d HO0 HO1 HO]
    · isplitr; · iexact HK
      isplitl [H8d]; · iexact H8d
      isplitl [HO0]; · iexact HO0
      isplitl [HO1]; · iexact HO1
      iexact HO
    iapply (show pairs (preL m c) ⊢ bigSep Finset.univ fun u => iprop(preL m c 0 u ∗ preL m c 1 u) from Entails.refl _) $$ HH
  iintro ⟨⟨-, H8d, HO0, HO1, HO⟩, HH⟩
  ihave HH := (show (bigSep Finset.univ fun u => iprop(postL m c 0 u ∗ postL m c 1 u)) ⊢ pairs (postL m c) from Entails.refl _) $$ HH
  ihave HH := (Entails.of_eq (from_L m c)) $$ HH
  icases HH with ⟨HW8, Hout, HC0, HC1, HT⟩
  ihave HO0 := (show flyO m c 0 8 ⊢ FlyO m c 0 7 from Entails.refl _) $$ HO0
  ihave HO1 := (show flyO m c 1 8 ⊢ FlyO m c 1 7 from Entails.refl _) $$ HO1
  -- the tiles' cells close
  imod (close_tiles m c) $$ [HT HL] with HT
  · isplitr; · iexact HK
    rw [pairs_sep fun d u => iprop(atPos ER (sendC c d 0 u) 2 ∅ 0 ∗ atPos ER (recvC c d 1 u) 2 ∅ 0)]
    isplitl [HT]; · iexact HT
    iexact HL
  -- the last two copies
  iapply (WP_bind c)
  iapply (wp_waitO m c 0 7) $$ [HO0 HO]
  · isplitr; · iexact HK
    isplitl [HO0]; · iexact HO0
    iexact HO
  iintro ⟨HF, Hout0, HO⟩
  iapply (wp_waitO m c 1 7) $$ [HO1 HO]
  · isplitr; · iexact HK
    isplitl [HO1]; · iexact HO1
    iexact HO
  iintro ⟨HF', Hout1, HO⟩
  -- the buffers whole again
  unfold FreeX FreeW FreeO
  ihave Hout0 := (show At c (oV 0 7).view (outTile m c 0 7) ⊢ OutAt m c 0 7 from Entails.refl _) $$ Hout0
  ihave Hout1 := (show At c (oV 1 7).view (outTile m c 1 7) ⊢ OutAt m c 1 7 from Entails.refl _) $$ Hout1
  icases HX with ⟨Hxs, Hxsem⟩
  icases HF0 with ⟨HWs0, Hws0⟩
  icases HF1 with ⟨HWs1, Hws1⟩
  icases HF with ⟨HSt0, Ho0⟩
  icases HF' with ⟨HSt1, Ho1⟩
  ihave Hout := (Entails.of_eq (pairs_dir (outPrev m c))) $$ Hout
  icases Hout with ⟨Hp0, Hp1⟩
  ihave Hp0 := (out_shift m c 0) $$ [Hp0 Hout0]
  · isplitl [Hp0]; · iexact Hp0
    iexact Hout0
  ihave Hp1 := (out_shift m c 1) $$ [Hp1 Hout1]
  · isplitl [Hp1]; · iexact Hp1
    iexact Hout1
  ihave Hout := (Entails.of_eq (pairs_dir (OutAt m c)).symm) $$ [Hp0 Hp1]
  · isplitl [Hp0]; · iexact Hp0
    iexact Hp1
  ihave Hout := (joinOut m c (fun _ => default)) $$ Hout
  ihave HW8 := (pairs_mono fun d u => Any_of_At c (w8P d u) (w8v m c d u)) $$ HW8
  ihave HW8 := (joinW8 c (fun _ => default)) $$ HW8
  ihave HC := (joinC c (fun _ => default)) $$ [HC0 HC1]
  · isplitl [HC0]; · iexact HC0
    iexact HC1
  ihave H8a := (Any_of_At c _ _) $$ H8a
  ihave H8b := (Any_of_At c _ _) $$ H8b
  ihave H8c := (Any_of_At c _ _) $$ H8c
  ihave H8d := (Any_of_At c _ _) $$ H8d
  ihave H8 := (Entails.of_eq (chunks c fun k => Any (F := F) c (x8P k)).symm) $$ [H8a H8b H8c H8d]
  · isplitl [H8a]; · iexact H8a
    isplitl [H8b]; · iexact H8b
    isplitl [H8c]; · iexact H8c
    iexact H8d
  ihave H8 := (join8 c (fun _ => default)) $$ H8
  ihave Hax := (Entails.of_eq (chunks c (xPc m c)).symm) $$ [Hxa Hxb Hxc Hxd]
  · isplitl [Hxa]; · iexact Hxa
    isplitl [Hxb]; · iexact Hxb
    isplitl [Hxc]; · iexact Hxc
    iexact Hxd
  ihave HWs := (joinWs c (fun _ => default)) $$ [HWs0 HWs1]
  · isplitl [HWs0]; · iexact HWs0
    iexact HWs1
  ihave HSt := (joinSt c (fun _ => default)) $$ [HSt0 HSt1]
  · isplitl [HSt0]; · iexact HSt0
    iexact HSt1
  ihave Hxs := (Entails.of_eq (some_xs c).symm) $$ Hxs
  iapply Hk
  unfold Finish Arg Scr SemLocal
  rw [cutX, cutW]
  isplitr [Hs0 Hs1 HO]
  · isplitl [Hax Haw]
    · isplitl [Hax]; · iexact Hax
      iexact Haw
    isplitl [Hout]; · iexact Hout
    isplitl [HC H8 Hxs HW8 HWs HSt]
    · isplitl [HC]; · iexact HC
      isplitl [H8]; · iexact H8
      isplitl [Hxs]; · iexact Hxs
      isplitl [HW8]; · iexact HW8
      isplitl [HWs]; · iexact HWs
      iexact HSt
    isplitl [Ho0 Ho1 Hws0 Hws1 Hxsem]
    · isplitl [Ho0]; · iexact Ho0
      isplitl [Ho1]; · iexact Ho1
      isplitl [Hws0]; · iexact Hws0
      isplitl [Hws1]; · iexact Hws1
      iexact Hxsem
    isplitl [HzB]; · iexact HzB
    iexact HT
  isplitl [Hs0]; · iexact Hs0
  isplitl [Hs1]; · iexact Hs1
  iexact HO

end Cert.KernelIdealProof
-- ==== Proof.KernelIdeal.Launch.lean ====
/-
What the launch deals the devices: the cells put under the schedule, the tokens dealt to whoever pays with them, the
credit for what the devices owe each other.
-/
module

public import proofs.«01_k».proof.Proof.KernelIdeal.Body

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The cells -/

/-- The kind of a cell, by its number among a device's. -/
def ckind : CI → Cell
  | .inl _ => .bar
  | .inr (.inl t) => .send t.1 t.2.1 t.2.2
  | .inr (.inr (.inl t)) => .recv t.1 t.2.1 t.2.2
  | .inr (.inr (.inr t)) => .cred t.1 t.2
theorem kind_ksem (k : CI) : kind (ksem k) = ckind k := by
  rcases k with _ | t | t | t
  · exact kind_bar
  · exact kind_send _ _ _
  · exact kind_recv _ _ _
  · exact kind_cred _ _
theorem ckind_injective : Function.Injective ckind := by
  rintro (_ | ⟨d, j, u⟩ | ⟨d, j, u⟩ | ⟨d, u⟩) (_ | ⟨d', j', u'⟩ | ⟨d', j', u'⟩ | ⟨d', u'⟩) h <;> first | rfl | (cases h; rfl) | cases h
theorem ksem_injective : Function.Injective ksem := fun k k' h => ckind_injective (by rw [← kind_ksem, ← kind_ksem, h])
theorem kcell_injective : Function.Injective (kcell : Dev nD × CI → GSem nD τ sig) := by
  rintro ⟨c, k⟩ ⟨c', k'⟩ h
  have h1 : c = c' := congrArg (fun g : GSem nD τ sig => g.1.1) h
  have h2 : k = k' := ksem_injective (congrArg Prod.snd h)
  rw [h1, h2]
def ringCells : Finset (GSem nD τ sig) := Finset.univ.map ⟨kcell, kcell_injective⟩

/-- A family over a device's cells. -/
theorem cells_split (c : Dev nD) (Φ : GSem nD τ sig → sProp 𝕄) : bigSep Finset.univ (fun k : CI => Φ (kcell (c, k)))
    = iprop(Φ (barC c) ∗ (pairs (fun d u => Φ (sendC c d 0 u)) ∗ pairs (fun d u => Φ (sendC c d 1 u)))
      ∗ (pairs (fun d u => Φ (recvC c d 0 u)) ∗ pairs (fun d u => Φ (recvC c d 1 u))) ∗ pairs (fun d u => Φ (credC c d u))) := by
  rw [bigSep_univ_sum, bigSep_univ_sum, bigSep_univ_sum, ← slots_pairs fun d j u => Φ (sendC c d j u), ← slots_pairs fun d j u => Φ (recvC c d j u),
    ← pairs_prod fun d u => Φ (credC c d u), bigSep_univ_eq_bigSepL [()] (by decide) (by decide), bigSepL_singleton]
  rfl

/-! ## The kernel's own semaphores -/

abbrev OI : Type := (Fin 2 × Fin 2 × Fin 8) ⊕ (Fin 2 × Fin 2 × Fin 8) ⊕ (Fin 2 × Fin 8) ⊕ Fin 5
def osem : OI → SemLoc sig
  | .inl t => .dma (sendS t.1 t.2.1 t.2.2)
  | .inr (.inl t) => .dma (recvS t.1 t.2.1 t.2.2)
  | .inr (.inr (.inl t)) => .reg (credS t.1 t.2)
  | .inr (.inr (.inr 0)) => .dma (outS 0)
  | .inr (.inr (.inr 1)) => .dma (outS 1)
  | .inr (.inr (.inr 2)) => .dma (wsS 0)
  | .inr (.inr (.inr 3)) => .dma (wsS 1)
  | .inr (.inr (.inr 4)) => .dma xsS

theorem kind_local (i : Fin 5) : kind (osem (.inr (.inr (.inr i)))) = .other := by revert i; decide
theorem local_injective : ∀ i j : Fin 5, osem (.inr (.inr (.inr i))) = osem (.inr (.inr (.inr j))) → i = j := by decide
def okind : OI → Cell
  | .inl t => .send t.1 t.2.1 t.2.2
  | .inr (.inl t) => .recv t.1 t.2.1 t.2.2
  | .inr (.inr (.inl t)) => .cred t.1 t.2
  | .inr (.inr (.inr _)) => .other
theorem osem_kind : ∀ k : OI, kind (osem k) = okind k
  | .inl _ => kind_send _ _ _
  | .inr (.inl _) => kind_recv _ _ _
  | .inr (.inr (.inl _)) => kind_cred _ _
  | .inr (.inr (.inr i)) => kind_local i
theorem osem_injective : Function.Injective osem := by
  intro k k' h
  have hk := (osem_kind k).symm.trans ((congrArg kind h).trans (osem_kind k'))
  rcases k with ⟨d, j, u⟩ | ⟨d, j, u⟩ | ⟨d, u⟩ | i <;> rcases k' with ⟨d', j', u'⟩ | ⟨d', j', u'⟩ | ⟨d', u'⟩ | i' <;>
    first | (cases hk; rfl) | cases hk | skip
  rw [local_injective i i' h]

set_option maxRecDepth 4000 in
theorem ownSemFacts : Pipeline.OwnSemFacts cfg0.spec osem where
  isScoped := by
    rintro (t | t | t | i)
    · revert t; decide
    · revert t; decide
    · revert t; decide
    · revert i; decide
  inj := osem_injective
  disj := by
    intro k w s h
    have h0 : kind (.dma ((cfg0.spec w).sem s)) = .other ∧ ∀ i : Fin 5, osem (.inr (.inr (.inr i))) ≠ .dma ((cfg0.spec w).sem s) := by
      fin_cases w <;> fin_cases s <;> decide
    have hk := (osem_kind k).symm.trans ((congrArg kind h).trans h0.1)
    rcases k with ⟨d, j, u⟩ | ⟨d, j, u⟩ | ⟨d, u⟩ | i
    · cases hk
    · cases hk
    · cases hk
    · exact h0.2 i h

abbrev own0 (c : Dev nD) : sProp 𝕄 := Pipeline.ownSems0 (Ix := ℕ) (Name := ℕ) (U := UU) (Lvl := ℕ) (Val := Elt F) (τ := τ) osem c

theorem own0_eq (c : Dev nD) : (own0 (F := F) c)
    = iprop((pairs (fun d u => semVal (sendC c d 0 u) 0) ∗ pairs (fun d u => semVal (sendC c d 1 u) 0))
      ∗ (pairs (fun d u => semVal (recvC c d 0 u) 0) ∗ pairs (fun d u => semVal (recvC c d 1 u) 0)) ∗ pairs (fun d u => semVal (credC c d u) 0) ∗ SemLocal (F := F) c) := by
  unfold own0 Pipeline.ownSems0
  rw [bigSep_univ_sum, bigSep_univ_sum, bigSep_univ_sum, ← slots_pairs fun d j u => (semVal (sendC c d j u) 0 : sProp 𝕄),
    ← slots_pairs fun d j u => (semVal (recvC c d j u) 0 : sProp 𝕄),
    ← pairs_prod fun d u => (semVal (credC c d u) 0 : sProp 𝕄), bigSep_univ_eq_bigSepL [(0 : Fin 5), 1, 2, 3, 4] (by decide) (by decide)]
  rfl
theorem unscoped0_eq (c : Dev nD) : (unscopedSems0 c : sProp 𝕄) = semVal (barC c) 0 := by
  unfold unscopedSems0; rw [bigSep_eq_bigSepL_of_eq [SemLoc.reg barS] (by decide) (by decide)]; rfl

/-- At the start: each protocol cell's counter, and the local copies'. -/
theorem sems_start (c : Dev nD) : iprop(own0 (F := F) c ∗ unscopedSems0 c) ⊢ iprop((bigSep Finset.univ fun k : CI => semVal (kcell (c, k)) 0) ∗ SemLocal (F := F) c) := by
  rw [own0_eq, unscoped0_eq, cells_split c fun g => (semVal g 0 : sProp 𝕄)]
  iintro ⟨⟨HS, HR, HC, HL⟩, HB⟩
  isplitr [HL]
  · isplitl [HB]; · iexact HB
    isplitl [HS]; · iexact HS
    isplitl [HR]; · iexact HR
    iexact HC
  iexact HL
/-- At the end: back. -/
theorem sems_end (c : Dev nD) : iprop(SemLocal (F := F) c ∗ semVal (barC c) 0 ∗ pairs (SemTile (F := F) c)) ⊢ iprop(unscopedSems0 c ∗ own0 (F := F) c) := by
  rw [own0_eq, unscoped0_eq, show pairs (SemTile (F := F) c) = iprop(pairs (fun d u => semVal (sendC c d 0 u) 0) ∗ pairs (fun d u => semVal (sendC c d 1 u) 0)
      ∗ pairs (fun d u => semVal (recvC c d 0 u) 0) ∗ pairs (fun d u => semVal (recvC c d 1 u) 0) ∗ pairs (fun d u => semVal (credC c d u) 0)) from by
    rw [← pairs_sep, ← pairs_sep, ← pairs_sep, ← pairs_sep]; rfl]
  iintro ⟨HL, HB, H1, H2, H3, H4, H5⟩
  isplitl [HB]; · iexact HB
  isplitl [H1 H2]
  · isplitl [H1]; · iexact H1
    iexact H2
  isplitl [H3 H4]
  · isplitl [H3]; · iexact H3
    iexact H4
  isplitl [H5]; · iexact H5
  iexact HL

/-! ## The tokens -/

abbrev TI : Type := Fin 2 ⊕ (Fin 8 × Fin 2 × Fin 8)

/-- A tile's payments on a device's cells, by number: the cell, -/
def tokSem (d : Fin 2) (u : Fin 8) : Fin 8 → SemLoc sig
  | 0 | 1 => .dma (sendS d 0 u)
  | 2 => .dma (sendS d 1 u)
  | 3 | 4 => .dma (recvS d 1 u)
  | 5 => .dma (recvS d 0 u)
  | 6 | 7 => .reg (credS d u)
/-- and the round. -/
def tokRound : Fin 8 → ℕ
  | 1 | 4 | 7 => 1
  | _ => 0
def tokOf (ct : Dev nD × TI) : GSem nD τ sig × ℕ × Fin 2 :=
  match ct.2 with
  | .inl dt => (barC ct.1, 0, dt)
  | .inr t => (((ct.1 : Thread nD τ), tokSem t.2.1 t.2.2 t.1), tokRound t.1, 0)

/-- Which payment it is, from its cell's kind and its round. -/
def tokInv : Cell × ℕ → Fin 8 × Fin 2 × Fin 8
  | (.send d j u, r) => (if j = 1 then 2 else if r = 0 then 0 else 1, d, u)
  | (.recv d j u, r) => (if j = 0 then 5 else if r = 0 then 3 else 4, d, u)
  | (.cred d u, r) => (if r = 0 then 6 else 7, d, u)
  | _ => (0, 0, 0)
theorem kind_tok (d : Fin 2) (u k : Fin 8) : kind (tokSem d u k) = match k with
    | 0 | 1 => .send d 0 u | 2 => .send d 1 u | 3 | 4 => .recv d 1 u | 5 => .recv d 0 u | 6 | 7 => .cred d u := by
  fin_cases k
  · exact kind_send d 0 u
  · exact kind_send d 0 u
  · exact kind_send d 1 u
  · exact kind_recv d 1 u
  · exact kind_recv d 1 u
  · exact kind_recv d 0 u
  · exact kind_cred d u
  · exact kind_cred d u
theorem tokInv_tok (d : Fin 2) (u k : Fin 8) : tokInv (kind (tokSem d u k), tokRound k) = (k, d, u) := by
  rw [kind_tok]; fin_cases k <;> rfl
theorem kind_tok_ne (d : Fin 2) (u k : Fin 8) : kind (tokSem d u k) ≠ .bar := by
  rw [kind_tok]; fin_cases k <;> exact fun h => by cases h
theorem tokOf_injective : Function.Injective tokOf := by
  rintro ⟨c, dt | ⟨k, d, u⟩⟩ ⟨c', dt' | ⟨k', d', u'⟩⟩ h
  · have h1 : c = c' := congrArg (fun x : GSem nD τ sig × ℕ × Fin 2 => x.1.1.1) h
    have h2 : dt = dt' := congrArg (fun x : GSem nD τ sig × ℕ × Fin 2 => x.2.2) h
    rw [h1, h2]
  · exact absurd ((congrArg (fun x : GSem nD τ sig × ℕ × Fin 2 => kind x.1.2) h).symm.trans kind_bar) (kind_tok_ne d' u' k')
  · exact absurd ((congrArg (fun x : GSem nD τ sig × ℕ × Fin 2 => kind x.1.2) h).trans kind_bar) (kind_tok_ne d u k)
  · have h1 : c = c' := congrArg (fun x : GSem nD τ sig × ℕ × Fin 2 => x.1.1.1) h
    have h2 : tokInv (kind (tokSem d u k), tokRound k) = tokInv (kind (tokSem d' u' k'), tokRound k') :=
      congrArg (fun x : GSem nD τ sig × ℕ × Fin 2 => tokInv (kind x.1.2, x.2.1)) h
    rw [tokInv_tok, tokInv_tok] at h2
    rw [h1, h2]
def ringToks : Finset (GSem nD τ sig × ℕ × Fin 2) := Finset.univ.map ⟨tokOf, tokOf_injective⟩

/-- The tokens of the payments on device `c`'s cells: the barrier's, the sends', the receives', the credits'. -/
def toks (c : Dev nD) : sProp 𝕄 :=
  iprop((dutyTok ER (barC c) 0 0 ∗ dutyTok ER (barC c) 0 1)
    ∗ (pairs (fun d u => dutyTok ER (sendC c d 0 u) 0 0) ∗ pairs (fun d u => dutyTok ER (sendC c d 0 u) 1 0) ∗ pairs (fun d u => dutyTok ER (sendC c d 1 u) 0 0))
    ∗ (pairs (fun d u => dutyTok ER (recvC c d 1 u) 0 0) ∗ pairs (fun d u => dutyTok ER (recvC c d 1 u) 1 0) ∗ pairs (fun d u => dutyTok ER (recvC c d 0 u) 0 0))
    ∗ pairs (fun d u => dutyTok ER (credC c d u) 0 0) ∗ pairs (fun d u => dutyTok ER (credC c d u) 1 0))
/-- The tokens of the payments device `c` makes. -/
def payToks (c : Dev nD) : sProp 𝕄 :=
  iprop((dutyTok ER (barC (ups 0 c)) 0 0 ∗ dutyTok ER (barC (ups 1 c)) 0 1)
    ∗ (pairs (fun d u => dutyTok ER (sendC c d 0 u) 0 0) ∗ pairs (fun d u => dutyTok ER (sendC c d 0 u) 1 0) ∗ pairs (fun d u => dutyTok ER (sendC c d 1 u) 0 0))
    ∗ (pairs (fun d u => dutyTok ER (recvC (dst d c) d 1 u) 0 0) ∗ pairs (fun d u => dutyTok ER (recvC (dst d c) d 1 u) 1 0)
      ∗ pairs (fun d u => dutyTok ER (recvC (dst d c) d 0 u) 0 0))
    ∗ pairs (fun d u => dutyTok ER (credC (ups d c) d u) 0 0) ∗ pairs (fun d u => dutyTok ER (credC (ups d c) d u) 1 0))

theorem toks_eq (c : Dev nD) : bigSep Finset.univ (fun t : TI => (dutyTok ER (tokOf (c, t)).1 (tokOf (c, t)).2.1 (tokOf (c, t)).2.2 : sProp 𝕄)) ⊢ toks (F := F) c := by
  rw [bigSep_univ_sum, two, bigSep_univ_prod, over_us]
  unfold toks
  rw [← pairs_prod, ← pairs_prod, ← pairs_prod, ← pairs_prod, ← pairs_prod, ← pairs_prod, ← pairs_prod, ← pairs_prod]
  refine sep_mono_right ?_
  show iprop((bigSep Finset.univ fun t : Fin 2 × Fin 8 => dutyTok ER (sendC c t.1 0 t.2) 0 0) ∗ (bigSep Finset.univ fun t : Fin 2 × Fin 8 => dutyTok ER (sendC c t.1 0 t.2) 1 0)
      ∗ (bigSep Finset.univ fun t : Fin 2 × Fin 8 => dutyTok ER (sendC c t.1 1 t.2) 0 0)
      ∗ (bigSep Finset.univ fun t : Fin 2 × Fin 8 => dutyTok ER (recvC c t.1 1 t.2) 0 0) ∗ (bigSep Finset.univ fun t : Fin 2 × Fin 8 => dutyTok ER (recvC c t.1 1 t.2) 1 0)
      ∗ (bigSep Finset.univ fun t : Fin 2 × Fin 8 => dutyTok ER (recvC c t.1 0 t.2) 0 0)
      ∗ (bigSep Finset.univ fun t : Fin 2 × Fin 8 => dutyTok ER (credC c t.1 t.2) 0 0) ∗ bigSep Finset.univ fun t : Fin 2 × Fin 8 => dutyTok ER (credC c t.1 t.2) 1 0) ⊢ _
  iintro ⟨H0, H1, H2, H3, H4, H5, H6, H7⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6]; · iexact H6
  iexact H7

/-- Around the ring in a direction. -/
def ring (d : Fin 2) : Dev nD ≃ Dev nD := ⟨dst d, ups d, fun c => ups_dst d c, fun c => dst_ups d c⟩
theorem around (Φ : Dev nD → Fin 2 → Fin 8 → sProp 𝕄) (e : Fin 2 → Dev nD ≃ Dev nD) :
    (bigSep Finset.univ fun c : Dev nD => pairs (Φ c)) = bigSep Finset.univ fun c : Dev nD => pairs fun d u => Φ (e d c) d u := by
  simp only [pairs_dir]
  rw [bigSep_sep', bigSep_sep', bigSep_univ_equiv (e 0) fun c : Dev nD => bigSep Finset.univ (Φ c 0), bigSep_univ_equiv (e 1) fun c : Dev nD => bigSep Finset.univ (Φ c 1)]
theorem toks_around : (bigSep Finset.univ fun c : Dev nD => toks (F := F) c) = bigSep Finset.univ fun c : Dev nD => payToks (F := F) c := by
  unfold toks payToks
  simp only [bigSep_sep']
  rw [bigSep_univ_equiv (ring 0).symm fun c : Dev nD => (dutyTok ER (barC c) 0 0 : sProp 𝕄), bigSep_univ_equiv (ring 1).symm fun c : Dev nD => (dutyTok ER (barC c) 0 1 : sProp 𝕄),
    around (fun c d u => dutyTok ER (recvC c d 1 u) 0 0) ring, around (fun c d u => dutyTok ER (recvC c d 1 u) 1 0) ring, around (fun c d u => dutyTok ER (recvC c d 0 u) 0 0) ring,
    around (fun c d u => dutyTok ER (credC c d u) 0 0) fun d => (ring d).symm, around (fun c d u => dutyTok ER (credC c d u) 1 0) fun d => (ring d).symm]
  rfl

end Cert.KernelIdealProof
-- ==== Proof.KernelIdeal.Deal.lean ====
/-
The launch: its ghost state dealt to the devices, and the credit for what the devices owe each other.
-/
module

public import proofs.«01_k».proof.Proof.KernelIdeal.Launch

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## A device's share -/

/-- A device's tile state, family by family. -/
theorem Gh_eq (c : Dev nD) : pairs (Gh (F := F) c) = iprop(
    (pairs (fun d u => dutyTok ER (sendC c d 0 u) 0 0) ∗ pairs (fun d u => dutyTok ER (recvC (dst d c) d 1 u) 0 0))
    ∗ (pairs (fun d u => atPos ER (sendC c d 0 u) 0 ∅ 0) ∗ pairs (fun d u => atPos ER (recvC c d 1 u) 0 ∅ 0) ∗ pairs (fun d u => cred (tallyAt (recvC c d 1 u) 0 N))
      ∗ pairs (fun d u => cred (tallyAt (credC c d u) 0 1)) ∗ pairs (fun d u => dutyTok ER (credC (ups d c) d u) 0 0) ∗ pairs (fun d u => dutyTok ER (sendC c d 1 u) 0 0)
      ∗ pairs (fun d u => dutyTok ER (recvC (dst d c) d 0 u) 0 0))
    ∗ (pairs (fun d u => atPos ER (sendC c d 1 u) 0 ∅ 0) ∗ pairs (fun d u => atPos ER (recvC c d 0 u) 0 ∅ 0) ∗ pairs (fun d u => cred (tallyAt (recvC c d 0 u) 0 N))
      ∗ pairs (fun d u => cred (tallyAt (credC c d u) 1 1)) ∗ pairs (fun d u => dutyTok ER (credC (ups d c) d u) 1 0) ∗ pairs (fun d u => dutyTok ER (sendC c d 0 u) 1 0)
      ∗ pairs (fun d u => dutyTok ER (recvC (dst d c) d 1 u) 1 0))
    ∗ pairs (fun d u => atPos ER (credC c d u) 0 ∅ 0) ∗ pairs (fun d u => cred (tallyAt (recvC c d 1 u) 1 N))) := by
  simp only [← pairs_sep]
  rfl

/-- The credit of a device's tiles, family by family. -/
def Creds (c : Dev nD) : sProp 𝕄 :=
  iprop(pairs (fun d u => cred (tallyAt (recvC c d 1 u) 0 N))
    ∗ (pairs (fun d u => cred (tallyAt (credC c d u) 0 1)) ∗ pairs (fun d u => cred (tallyAt (recvC c d 0 u) 0 N)))
    ∗ pairs (fun d u => cred (tallyAt (credC c d u) 1 1)) ∗ pairs (fun d u => cred (tallyAt (recvC c d 1 u) 1 N)))

/-- A device's positions. -/
def Posn (c : Dev nD) : sProp 𝕄 := bigSep Finset.univ fun k : CI => atPos ER (kcell (c, k)) 0 ∅ 0

/-- Positions, tokens to pay with, and credit: a device's ghost state. -/
theorem ghost_intro (c : Dev nD) :
    iprop(Posn (F := F) c ∗ payToks (F := F) c ∗ cred (tallyAt (barC c) 0 2) ∗ Creds (F := F) c) ⊢ iprop(GhBar (F := F) c ∗ pairs (Gh (F := F) c)) := by
  unfold Posn payToks Creds GhBar
  rw [Gh_eq, cells_split c fun g => (atPos ER g 0 ∅ 0 : sProp 𝕄)]
  iintro ⟨⟨PB, ⟨PS0, PS1⟩, ⟨PR0, PR1⟩, PC⟩, ⟨⟨TB0, TB1⟩, ⟨TS0, TS0', TS1⟩, ⟨TR1, TR1', TR0⟩, TC, TC'⟩, CB, C1, ⟨C2, C3⟩, C4, C5⟩
  isplitl [PB TB0 TB1 CB]
  · isplitl [PB]; · iexact PB
    isplitl [TB0]; · iexact TB0
    isplitl [TB1]; · iexact TB1
    iexact CB
  isplitl [TS0 TR1]
  · isplitl [TS0]; · iexact TS0
    iexact TR1
  isplitl [PS0 PR1 C1 C2 TC TS1 TR0]
  · isplitl [PS0]; · iexact PS0
    isplitl [PR1]; · iexact PR1
    isplitl [C1]; · iexact C1
    isplitl [C2]; · iexact C2
    isplitl [TC]; · iexact TC
    isplitl [TS1]; · iexact TS1
    iexact TR0
  isplitl [PS1 PR0 C3 C4 TC' TS0' TR1']
  · isplitl [PS1]; · iexact PS1
    isplitl [PR0]; · iexact PR0
    isplitl [C3]; · iexact C3
    isplitl [C4]; · iexact C4
    isplitl [TC']; · iexact TC'
    isplitl [TS0']; · iexact TS0'
    iexact TR1'
  isplitl [PC]; · iexact PC
  iexact C5

/-! ## The ghost state dealt -/

def u₀ : UU :=
  (initOf (Pipeline.cells cfgs cellOf_inj) (Pipeline.launchToks cfgs cellOf_inj), (initOf ringCells ringToks, 1))

/-- What the launch's element deals device `c`. -/
def G (c : Dev nD) : sProp 𝕄 :=
  iprop((bigSep Finset.univ fun k : CI => roundState ER (sched m) (kcell (c, k)) 0)
    ∗ (bigSep Finset.univ fun k : CI => reached ER (kcell (c, k)) 0) ∗ Posn (F := F) c ∗ toks (F := F) c)
/-- What is known of all cells once they are under the schedule. -/
def Cells : sProp 𝕄 :=
  iprop((bigSep Finset.univ fun ck : Dev nD × CI => Inv m (kcell ck)) ∗ bigSep Finset.univ fun ck : Dev nD × CI => reached ER (kcell ck) 0)
instance : BI.Persistent (Cells m : sProp 𝕄) := by unfold Cells; infer_instance
/-- What the launch makes of it for device `c`. -/
def G' (c : Dev nD) : sProp 𝕄 := iprop(Cells m ∗ SemLocal (F := F) c ∗ Posn (F := F) c ∗ payToks (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks (F := F) c := by
    unfold ringToks; rw [bigSep_map, bigSep_univ_prod]
    exact bigSep_mono fun c _ => toks_eq c
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G Posn; simp only [bigSep_sep']
  isplitl [Hst']; · iexact Hst'
  isplitl [Hr']; · iexact Hr'
  isplitl [Hat']; · iexact Hat'
  iexact Htok'

/-- Device `c`'s cells put under the schedule. -/
theorem core_alloc (c : Dev nD) : iprop(own0 (F := F) c ∗ unscopedSems0 c ∗ G m c)
    ⊢ |={Set.univ}=> iprop((bigSep Finset.univ fun k : CI => Inv m (kcell (c, k))) ∗ (bigSep Finset.univ fun k : CI => reached ER (kcell (c, k)) 0)
        ∗ SemLocal (F := F) c ∗ Posn (F := F) c ∗ toks (F := F) c) := by
  unfold G
  iintro ⟨Hos, Hus, Hst, Hr, Hat, Htok⟩
  ihave Hv := (sems_start (F := F) c) $$ [Hos Hus]
  · isplitl [Hos] <;> iassumption
  icases Hv with ⟨Hv, HL⟩
  imod (show iprop((bigSep Finset.univ fun k : CI => semVal (kcell (c, k)) 0) ∗ bigSep Finset.univ fun k : CI => roundState ER (sched m) (kcell (c, k)) 0)
      ⊢ (|={Set.univ}=> bigSep Finset.univ fun k : CI => Inv m (kcell (c, k)) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [HL]; · iexact HL
  isplitl [Hat]; · iexact Hat
  iexact Htok

/-- Persistent knowledge goes to every device. -/
theorem to_all {R : sProp 𝕄} [BI.Persistent R] (Φ : Dev nD → sProp 𝕄) :
    iprop(R ∗ bigSep Finset.univ Φ) ⊢ bigSep Finset.univ fun c => iprop(R ∗ Φ c) :=
  (sep_mono_left (BI.bigSep_of_persistent Finset.univ R)).trans (by rw [← bigSep_sep'])

theorem regroup :
    (bigSep Finset.univ fun c : Dev nD => iprop((bigSep Finset.univ fun k : CI => Inv m (kcell (c, k))) ∗ (bigSep Finset.univ fun k : CI => reached ER (kcell (c, k)) 0)
        ∗ SemLocal (F := F) c ∗ Posn (F := F) c ∗ toks (F := F) c) : sProp 𝕄)
      ⊢ bigSep Finset.univ (G' m) := by
  rw [bigSep_sep', bigSep_sep', bigSep_sep', bigSep_sep', toks_around, ← bigSep_univ_prod (fun ck : Dev nD × CI => Inv m (kcell ck)),
    ← bigSep_univ_prod (fun ck : Dev nD × CI => (reached ER (kcell ck) 0 : sProp 𝕄)), ← bigSep_sep', ← bigSep_sep']
  iintro ⟨HI, HR, HC⟩
  iapply (to_all (R := Cells m) fun c => iprop(SemLocal (F := F) c ∗ Posn (F := F) c ∗ payToks (F := F) c))
  isplitr [HC]
  · unfold Cells
    isplitl [HI]; · iexact HI
    iexact HR
  iexact HC

theorem glob : (bigSep Finset.univ fun c => iprop(own0 (F := F) c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The launch's credit -/

/-- The device that makes a payment to device `c`. -/
def Ev.inv (c : Dev nD) : Ev → Dev nD
  | .bar d => dst d c
  | .recv _ d _ => ups d c
  | .cred _ d _ => dst d c
theorem tgt_inv (c : Dev nD) : ∀ e : Ev, e.tgt (e.inv c) = c
  | .bar d => ups_dst d c
  | .recv _ d _ => dst_ups d c
  | .cred _ d _ => ups_dst d c
theorem inv_tgt (c : Dev nD) : ∀ e : Ev, e.inv (e.tgt c) = c
  | .bar d => dst_ups d c
  | .recv _ d _ => ups_dst d c
  | .cred _ d _ => dst_ups d c

/-- The credit at device `c` for a list of payments its neighbours owe. -/
def credOf (c : Dev nD) : List Ev → sProp 𝕄
  | [] => iprop(emp)
  | e :: l => iprop(cred (tallyAt ((c : Thread nD τ), e.sem) e.ix e.amt) ∗ credOf c l)

theorem launch_credOf (c : Dev nD) : ∀ l : List Ev, (Pipeline.launchCred (fun d => owed d l) c : sProp 𝕄) ⊢ credOf c l
  | [] => Entails.of_eq (Pipeline.launchCred_zero c)
  | e :: l => by
    show (Pipeline.launchCred (fun d => owed d l + tallyAt ((e.tgt d : Thread nD τ), e.sem) e.ix e.amt) c : sProp 𝕄)
      ⊢ iprop(cred (tallyAt ((c : Thread nD τ), e.sem) e.ix e.amt) ∗ credOf c l)
    rw [Pipeline.launchCred_add (fun d => owed d l) fun d => tallyAt ((e.tgt d : Thread nD τ), e.sem) e.ix e.amt]
    iintro ⟨Hl, He⟩
    isplitl [He]
    · iapply (Pipeline.launchCred_tallyAt e.sem (fun d => e.tgt d) (fun d => e.inv d) (fun c => tgt_inv c e) (fun d => inv_tgt d e) e.ix e.amt c)
      iexact He
    iapply (launch_credOf c l); iexact Hl

theorem credOf_append (c : Dev nD) (l' : List Ev) : ∀ l : List Ev, (credOf c (l ++ l') : sProp 𝕄) ⊢ iprop(credOf c l ∗ credOf c l')
  | [] => by
    iintro H
    isplitr; · unfold credOf; iempintro
    iexact H
  | e :: l => by
    show iprop(cred (tallyAt ((c : Thread nD τ), e.sem) e.ix e.amt) ∗ credOf c (l ++ l')) ⊢ iprop((cred (tallyAt ((c : Thread nD τ), e.sem) e.ix e.amt) ∗ credOf c l) ∗ credOf c l')
    iintro ⟨He, H⟩
    ihave H := (credOf_append c l' l) $$ H
    icases H with ⟨H, H'⟩
    isplitl [He H]
    · isplitl [He]; · iexact He
      iexact H
    iexact H'

theorem credOf_flat (c : Dev nD) (f : Fin 8 → List Ev) (rest : List Ev) : ∀ (u : Fin 8) (l : List (Fin 8)),
    (credOf c ((u :: l).flatMap f ++ rest) : sProp 𝕄) ⊢ iprop(bigSepL (u :: l) (fun u => credOf c (f u)) ∗ credOf c rest)
  | u, [] => by
    rw [bigSepL_singleton, List.flatMap_cons, List.flatMap_nil, List.append_nil]
    exact credOf_append c rest (f u)
  | u, v :: l => by
    rw [bigSepL_cons_cons, List.flatMap_cons, List.append_assoc]
    show _ ⊢ iprop((credOf c (f u) ∗ bigSepL (v :: l) fun u => credOf c (f u)) ∗ credOf c rest)
    iintro H
    ihave H := (credOf_append c ((v :: l).flatMap f ++ rest) (f u)) $$ H
    icases H with ⟨Hu, H⟩
    ihave H := (credOf_flat c f rest v l) $$ H
    icases H with ⟨H, Hr⟩
    isplitl [Hu H]
    · isplitl [Hu]; · iexact Hu
      iexact H
    iexact Hr

theorem credOf_ahead (c : Dev nD) (f : Fin 8 → List Ev) (rest : List Ev) :
    (credOf c (ahead 0 f rest) : sProp 𝕄) ⊢ iprop((bigSep Finset.univ fun u => credOf c (f u)) ∗ credOf c rest) := by
  rw [over_us]; exact credOf_flat c f rest 0 [1, 2, 3, 4, 5, 6, 7]

theorem credOf_A (c : Dev nD) : (bigSep Finset.univ fun u => credOf c (evA u) : sProp 𝕄) ⊢ pairs (fun d u => cred (tallyAt (recvC c d 1 u) 0 N)) := by
  refine bigSep_mono fun u _ => ?_
  show iprop(cred (tallyAt (recvC c 0 1 u) 0 N) ∗ cred (tallyAt (recvC c 1 1 u) 0 N) ∗ emp) ⊢ iprop(cred (tallyAt (recvC c 0 1 u) 0 N) ∗ cred (tallyAt (recvC c 1 1 u) 0 N))
  iintro ⟨H0, H1, -⟩
  isplitl [H0]; · iexact H0
  iexact H1
theorem credOf_H (c : Dev nD) (i j : Fin 2) (r : ℕ) (hj : slotIn i.succ = j) (hr : roundIn i.succ = r) :
    (bigSep Finset.univ fun u => credOf c (evH i u) : sProp 𝕄)
      ⊢ iprop(pairs (fun d u => cred (tallyAt (credC c d u) i.val 1)) ∗ pairs (fun d u => cred (tallyAt (recvC c d j u) r N))) := by
  subst hj; subst hr
  rw [← pairs_sep]
  refine bigSep_mono fun u _ => ?_
  show iprop(cred (tallyAt (credC c 0 u) i.val 1) ∗ cred (tallyAt (recvC c 0 (slotIn i.succ) u) (roundIn i.succ) N)
      ∗ cred (tallyAt (credC c 1 u) i.val 1) ∗ cred (tallyAt (recvC c 1 (slotIn i.succ) u) (roundIn i.succ) N) ∗ emp)
    ⊢ iprop((cred (tallyAt (credC c 0 u) i.val 1) ∗ cred (tallyAt (recvC c 0 (slotIn i.succ) u) (roundIn i.succ) N))
      ∗ cred (tallyAt (credC c 1 u) i.val 1) ∗ cred (tallyAt (recvC c 1 (slotIn i.succ) u) (roundIn i.succ) N))
  iintro ⟨H0, H1, H2, H3, -⟩
  isplitl [H0 H1]
  · isplitl [H0]; · iexact H0
    iexact H1
  isplitl [H2]; · iexact H2
  iexact H3

/-- All the credit of device `c`. -/
theorem creds (c : Dev nD) : (Pipeline.launchCred (fun d => owed d evs) c : sProp 𝕄) ⊢ iprop(cred (tallyAt (barC c) 0 2) ∗ Creds (F := F) c) := by
  refine (launch_credOf c evs).trans ?_
  show iprop(cred (tallyAt (barC c) 0 1) ∗ cred (tallyAt (barC c) 0 1) ∗ credOf c (ahead 0 evA (ahead 0 (evH 0) (ahead 0 (evH 1) [])))) ⊢ _
  iintro ⟨B0, B1, H⟩
  ihave H := (credOf_ahead c _ _) $$ H
  icases H with ⟨HA, H⟩
  ihave H := (credOf_ahead c _ _) $$ H
  icases H with ⟨HH, H⟩
  ihave H := (credOf_ahead c _ _) $$ H
  icases H with ⟨HH', -⟩
  ihave HA := (credOf_A c) $$ HA
  ihave HH := (credOf_H c 0 0 0 rfl rfl) $$ HH
  ihave HH' := (credOf_H c 1 1 1 rfl rfl) $$ HH'
  isplitl [B0 B1]
  · iapply (show iprop(cred (tallyAt (barC c) 0 1) ∗ cred (tallyAt (barC c) 0 1)) ⊢ (cred (tallyAt (barC c) 0 2) : sProp 𝕄) from
      (cred_add _ _).2.trans (Entails.of_eq (congrArg cred (tallyAt_add (barC c) 0 1 1))))
    isplitl [B0]; · iexact B0
    iexact B1
  unfold Creds
  isplitl [HA]; · iexact HA
  isplitl [HH]
  · iapply (show iprop(pairs (fun d u => cred (tallyAt (credC c d u) (0 : Fin 2).val 1)) ∗ pairs (fun d u => cred (tallyAt (recvC c d 0 u) 0 N)))
      ⊢ (iprop(pairs (fun d u => cred (tallyAt (credC c d u) 0 1)) ∗ pairs (fun d u => cred (tallyAt (recvC c d 0 u) 0 N))) : sProp 𝕄) from BI.Entails.refl _)
    iexact HH
  · iapply (show iprop(pairs (fun d u => cred (tallyAt (credC c d u) (1 : Fin 2).val 1)) ∗ pairs (fun d u => cred (tallyAt (recvC c d 1 u) 1 N)))
      ⊢ (iprop(pairs (fun d u => cred (tallyAt (credC c d u) 1 1)) ∗ pairs (fun d u => cred (tallyAt (recvC c d 1 u) 1 N))) : sProp 𝕄) from BI.Entails.refl _)
    iexact HH'

end Cert.KernelIdealProof
-- ==== Proof.KernelIdeal.Eq.lean ====
/-
The printed body is the program over tiles: unfolding both gives the same line of operations.
-/
module

public import proofs.«01_k».proof.Proof.KernelIdeal.Prog
public import Idealize.ShloMosaic.Lib.Pipeline.Regions

@[expose] public section

noncomputable section

namespace Cert.KernelIdealProof

open Cert.KernelIdeal Cert.KernelIdeal.Gen
open Idealize.ShloMosaic
open Idealize.ShloMosaic.TcCoe
open Idealize.SL Idealize.SL.Sem

variable {F : FTy → Type} [FloatOps F]

theorem body_eq : (cc0_body aM (Memref.isWhole_whole _) bM (Memref.isWhole_whole _) s0M (Memref.isWhole_whole _) s1M (Memref.isWhole_whole _)
    oM (Memref.isWhole_whole _) cM (Memref.isWhole_whole _) x8M (Memref.isWhole_whole _) xsM (Memref.isWhole_whole _) w8M (Memref.isWhole_whole _)
    wsM (Memref.isWhole_whole _) stM (Memref.isWhole_whole _)
    cc0_scratch6 cc0_scratch7 cc0_scratch8 cc0_scratch9 cc0_scratch10 cc0_scratch11 : P F PUnit) = prog := by
  chain_rfl

end Cert.KernelIdealProof
-- ==== Proof.KernelIdeal.Run.lean ====
/-
The run: from any memory with zero counters the four devices' kernels end, with the arguments as they were, every tile of
every device's result as computed, and every counter at zero.
-/
module

public import proofs.«01_k».proof.Proof.KernelIdeal.Deal
public import proofs.«01_k».proof.Proof.KernelIdeal.Eq
public import proofs.«01_k».proof.Proof.Gen.KernelIdeal.Points
public import Idealize.ShloMosaic.Lib.Pipeline.Launch
public import Idealize.ShloMosaic.Lib.Pipeline.CollectiveSegs
public import Idealize.ShloMosaic.Lib.Pipeline.Kit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The pipeline's data -/

/-- The scales, as staged. -/
def stg0 (c : Dev nD) : (cc0_stg0_0 : Ref sig .tc).ty.Contents (Elt F) :=
  (win0_0.blk (0 : Fin 1)).view.read (Elt F) (m ((c : Thread nD τ).loc main_arg2))
def stg1 (c : Dev nD) : (cc0_stg1_0 : Ref sig .tc).ty.Contents (Elt F) :=
  (win0_1.blk (0 : Fin 1)).view.read (Elt F) (m ((c : Thread nD τ).loc main_arg3))

theorem one_S1 : ∀ a, S1.size a = 1 := by decide
theorem idx1 (x y : S1.Idx) : x = y := funext fun a => Fin.ext (by
  have hx := (x a).isLt
  have hy := (y a).isLt
  have h1 := one_S1 a
  omega)
theorem stg0_read (c : Dev nD) : ∀ x, (s0M.access rS : View sig .tc .smem S1 .f32).read (Elt F) (stg0 m c) x = sc0 m c := fun x =>
  congrArg (m ((c : Thread nD τ).loc main_arg2) : Vec F S1 .f32) (idx1 _ _)
theorem stg1_read (c : Dev nD) : ∀ x, (s1M.access rS : View sig .tc .smem S1 .f32).read (Elt F) (stg1 m c) x = sc1 m c := fun x =>
  congrArg (m ((c : Thread nD τ).loc main_arg3) : Vec F S1 .f32) (idx1 _ _)

/-- What the body starts with beside the scratch. -/
def Start' (c : Dev nD) : sProp 𝕄 :=
  iprop(Know m ∗ Arg m c ∗ Some' (F := F) c main_v1 ∗ SemLocal (F := F) c ∗ GhBar (F := F) c ∗ pairs (Gh (F := F) c))

def dats (_ : Fin 1) (c : Dev nD) : Dat τ (Elt F) ℕ ℕ UU ℕ cfg0 c where
  A w := m ((cfg0.win w).arr.view.loc (c : Thread nD τ))
  after w _ := match w with
    | ⟨0, _⟩ => stg0 m c
    | ⟨1, _⟩ => stg1 m c
  Φ t := match t with
    | ⟨0, _⟩ => Start m c
    | ⟨_ + 1, _⟩ => Finish m c
  q _ := fullShare
  owed t := match t with
    | ⟨0, _⟩ => owed c evs
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Start m c ∗ (dats m 0 c).owesAt 0 t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(Finish m c ∗ (dats m 0 c).owesAt 0 t0_0.succ ∗ stg c cc0_stg0_0 (stg0 m c) ∗ stg c cc0_stg1_0 (stg1 m c))

set_option maxRecDepth 4000 in
theorem sound_body (c : Dev nD) : bodyPre m c ⊢ WP c prog (fun _ => bodyPost m c) := by
  unfold bodyPre
  iintro ⟨HS, Ho, ⟨%d0, %g0, %hg0, H0⟩, ⟨%d1, %g1, %hg1, H1⟩⟩
  have h0 : g0 = stg0 m c := by rw [hg0]; unfold Dat.before; rw [if_pos (fetch0_0 t0_0)]; rfl
  have h1 : g1 = stg1 m c := by rw [hg1]; unfold Dat.before; rw [if_pos (fetch0_1 t0_0)]; rfl
  subst h0; subst h1
  unfold Dat.owesAt Pipeline.owesWithin
  icases Ho with ⟨%W, %hW, HO⟩
  iapply (wp_prog m c (stg0 m c) (stg1 m c) (stg0_read m c) (stg1_read m c)) $$ [HS H0 H1 HO]
  · isplitl [HS]; · iexact HS
    isplitl [H0]; · iexact H0
    isplitl [H1]; · iexact H1
    unfold OW; iexists W
    iapply (show owes (c : Thread nD τ) ((dats m 0 c).owed t0_0.castSucc) W ⊢ (owes (c : Thread nD τ) (owed c evs) W : sProp 𝕄) from BI.Entails.refl _)
    iexact HO
  iintro ⟨HF, H0, H1, HO⟩
  unfold bodyPost OW Dat.owesAt Pipeline.owesWithin
  icases HO with ⟨%W', HO⟩
  isplitl [HF]; · iexact HF
  isplitl [HO]
  · iexists W'
    isplitr; · ipureintro; exact fun _ _ => Or.inl trivial
    iapply (show owes (c : Thread nD τ) (owed c []) W' ⊢ (owes (c : Thread nD τ) ((dats m 0 c).owed t0_0.succ) W' : sProp 𝕄) from BI.Entails.refl _)
    iexact HO
  isplitl [H0]
  · iexists _; isplitr; · (ipureintro; rfl)
    iexact H0
  iexists _; isplitr; · (ipureintro; rfl)
  iexact H1

set_option maxRecDepth 16384 in
theorem body_obligation (c : Dev nD) : BodyObligation (dats (F := F) m 0 c) (defs₀ (F := F)) 𝒱₀ 0 Set.univ := fun t => by
  rw [fin_N0 t, bigSep_W0, bigSep_W0]
  simp only [owns_whole_eq]
  have hp : (defs₀ (F := F)) Proc.tc 0 (t0_0, cfg0.slots t0_0) = cc0_body aM (Memref.isWhole_whole _) bM (Memref.isWhole_whole _) s0M (Memref.isWhole_whole _) s1M
    (Memref.isWhole_whole _) oM (Memref.isWhole_whole _) cM (Memref.isWhole_whole _) x8M (Memref.isWhole_whole _) xsM (Memref.isWhole_whole _) w8M
    (Memref.isWhole_whole _) wsM (Memref.isWhole_whole _) stM (Memref.isWhole_whole _)
    cc0_scratch6 cc0_scratch7 cc0_scratch8 cc0_scratch9 cc0_scratch10 cc0_scratch11 := rfl
  rw [hp, body_eq]
  have h1 : (dats m 0 c).Φ t0_0.castSucc = Start m c := rfl
  have h2 : (dats m 0 c).Φ t0_0.succ = Finish m c := rfl
  have h3 : (dats m 0 c).after 0 t0_0 = stg0 m c := rfl
  have h4 : (dats m 0 c).after 1 t0_0 = stg1 m c := rfl
  rw [h1, h2, h3, h4]
  have e := sound_body m c
  unfold bodyPre bodyPost at e
  generalize (prog : P F PUnit) = p at e ⊢
  exact e

/-! ## The launch's conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owed d evs) c ∗ prngReg c (ρ c) ∗ G' m c)
      ⊢ |={Set.univ}=> iprop(Start' m c ∗ emp) := by
  rw [Pipeline.unscopedRestP_none, unscopedRest0_eq]
  unfold G' Cells Start' Know Arg Some'
  iintro ⟨⟨A0, A1, A2⟩, Hl, Hc, -, ⟨HI, HR⟩, HL, HP, HT⟩
  ihave Hc := (creds (F := F) c) $$ Hc
  icases Hc with ⟨CB, CT⟩
  ihave Hg := (ghost_intro (F := F) c) $$ [HP HT CB CT]
  · isplitl [HP]; · iexact HP
    isplitl [HT]; · iexact HT
    isplitl [CB]; · iexact CB
    iexact CT
  icases Hg with ⟨GB, GT⟩
  imodintro
  isplitl
  · isplitl [Hl HI HR]
    · isplitl [Hl]; · iexact Hl
      isplitl [HI]; · iexact HI
      iexact HR
    isplitl [A0 A1]
    · isplitl [A0]; · iexact A0
      iexact A1
    isplitl [A2]; · iexists _; iexact A2
    isplitl [HL]; · iexact HL
    isplitl [GB]; · iexact GB
    iexact GT
  iempintro

theorem phi0_intro (c : Dev nD) :
    iprop(Start' m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Start m c from rfl, scopedRest0_eq]
  unfold Start' Start Scr Some'
  iintro ⟨⟨HK, HA, HV, HL, GB, GT⟩, -, Hs⟩
  isplitl [HK]; · iexact HK
  isplitl [HA]; · iexact HA
  isplitl [HV]; · iexact HV
  isplitl [Hs]; · iexact Hs
  isplitl [HL]; · iexact HL
  isplitl [GB]; · iexact GB
  iexact GT

/-- What the run ends with. -/
def Y (c : Dev nD) : sProp 𝕄 := iprop((Arg m c ∗ Res m c) ∗ unscopedSems0 c)

theorem phi1_exit (c : Dev nD) :
    (dats m 0 c).Φ (Fin.last cfg0.N) ⊢ iprop(Y m c ∗ own0 (F := F) c ∗ Pipeline.scopedRest cfg0.spec c) := by
  rw [show (dats m 0 c).Φ (Fin.last cfg0.N) = Finish m c from rfl, scopedRest0_eq]
  unfold Finish Y Scr Some'
  iintro ⟨HA, HR, Hs, HL, HB, HT⟩
  ihave H := (sems_end (F := F) c) $$ [HL HB HT]
  · isplitl [HL]; · iexact HL
    isplitl [HB]; · iexact HB
    iexact HT
  icases H with ⟨HU, HO⟩
  isplitl [HA HR HU]
  · isplitl [HA HR]
    · isplitl [HA]; · iexact HA
      iexact HR
    iexact HU
  isplitl [HO]; · iexact HO
  iexact Hs

theorem waits (c : Dev nD) : (levAts L lv : sProp 𝕄) ⊢ Pipeline.cellsWaits cfgs (dats m) 0 0 c :=
  Pipeline.cellsWaits_intro cfgs (dats m) 0 0 c fun w s t => by
    have h0 : levOf (kind (.dma ((cfg0.win w).sem s))) 0 = 0 := by fin_cases w <;> fin_cases s <;> decide
    rcases t with ⟨_ | _, ht⟩
    · exact mayWait_low c _ h0 evs
    · exact mayWait_low c _ h0 []

/-- What is read off the final memory of device `c`. -/
def Read (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ ∀ (d : Fin 2) (u : Fin 8), (oV d u).view.read (Elt F) (s.mem ((c : Thread nD τ).loc main_v1)) = outTile m c d u

theorem read_end (c : Dev nD) (s' : Phys nD τ sig (Elt F)) :
    iprop(Y m c ∗ emp ∗ SI s') ⊢ |={Set.univ}=> iprop(⌜Read m c s'.mem ∧ ∀ sm : SemLoc sig, sm.isScoped .tc = false → s'.mem.sem ((c.tc : Thread nD τ), sm) = 0⌝ ∗ SI s') := by
  unfold Y Arg Res
  iintro ⟨⟨⟨⟨H0, H1⟩, ⟨%f, %hf, H2⟩⟩, Hu⟩, -, HSI⟩
  icombine HSI H0 gives %h0
  icombine HSI H1 gives %h1
  icombine HSI H2 gives %h2
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ h0, Buf.eq_of_forall_mem_univ h1, fun d u => by rw [show s'.mem.mem ((c : Thread nD τ).loc main_v1) = f from Buf.eq_of_forall_mem_univ h2]; exact hf d u⟩, hs⟩
  iexact HSI

/-! ## The run -/

/-- What the run establishes of device `c`. -/
def QC (c : Dev nD) (s : MemSt nD τ sig (Elt F)) : Prop :=
  Read m c s ∧ s.mem ((c : Thread nD τ).loc main_arg2) = m ((c : Thread nD τ).loc main_arg2)
    ∧ s.mem ((c : Thread nD τ).loc main_arg3) = m ((c : Thread nD τ).loc main_arg3)

set_option maxRecDepth 16384 in
theorem run_main : θ_run defs (onTc (τ := τ) (main (F := F))) ⟨m, fun _ => 0, ρ⟩ (fun r => (∀ c : Dev nD, QC m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := fun d => owed d evs) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (fund_ring m) $$ HX with HG
      imodintro
      isplitl [HP] <;> iassumption)
    (hglob := glob m)
    (hA := fun _ _ => rfl) (hpf := fun _ k => k.elim0)
    (X := Start' m) (Y := Y m) (Z := fun _ => iprop(emp))
    (hX := start_intro m ρ) (hin := phi0_intro m) (hout := phi1_exit m)
    (QY := fun c s => Read m c s ∧ ∀ sm : SemLoc sig, sm.isScoped .tc = false → s.sem ((c.tc : Thread nD τ), sm) = 0)
    (hY := read_end m)
    (hQ := fun _ h hs => ⟨fun c => ⟨(h c).2.2.1, ((h c).1 0).trans ((dats m 0 c).arrAt_in 0 rfl _), ((h c).1 1).trans ((dats m 0 c).arrAt_in 1 rfl _)⟩,
      sem_eq_zero hs fun c => (h c).2.2.2⟩)

end Cert.KernelIdealProof
-- ==== Proof.Value.lean ====
/-
What a finished tile is over the extended reals: the sum that has gone around the ring is the whole product's
entry, and the kernel's `y * logistic y` is the reference's `y / (1 + exp (-y))`.
-/
module

public import proofs.«01_k».proof.Proof.KernelIdeal.Run
public import proofs.«01_k».proof.Proof.Gen.ReferenceIdeal.Run
public import Idealize.ShloMosaic.Lib.MatmulPlain
public import Idealize.ShloMosaic.Lib.StackMember
public import Idealize.ShloMosaic.Lib.IdealHost
public import Idealize.ShloMosaic.Lib.Layout

@[expose] public section

noncomputable section

namespace Cert.KernelIdealProof

open Cert.KernelIdeal Cert.KernelIdeal.Gen

open Idealize.ShloMosaic
open Idealize.ShloMosaic.TcCoe
open Idealize.ShloMosaic.ValueIdx
open scoped BigOperators

/-! ## A shape cast and its reverse -/

theorem cast_cast {α : Type} {s t : Shape} (x : s.Idx → α) (h : s.ShapeCasts t) (h' : t.ShapeCasts s) :
    shapeCast s (shapeCast t x h) h' = x :=
  funext fun j => by unfold shapeCast; rw [Shape.reshapeEquiv_reshapeEquiv, Shape.reshapeEquiv_self]

theorem cast_same {α : Type} {s : Shape} (x : s.Idx → α) (h : s.ShapeCasts s) : shapeCast s x h = x :=
  funext fun j => by unfold shapeCast; rw [Shape.reshapeEquiv_self]

theorem cast_at {α : Type} {s t : Shape} (x : s.Idx → α) (h : s.ShapeCasts t) (h' : s.numel = t.numel) (j : s.Idx) :
    shapeCast t x h (Shape.reshapeEquiv h' j) = x j := by
  unfold shapeCast; rw [Shape.reshapeEquiv_reshapeEquiv, Shape.reshapeEquiv_self]

/-! ## The payloads -/

/-- A partial sum as it is stored, read as a tile. -/
abbrev flat (v : Vec Ideal S1x1x1x1024x512 .bf16) : S1024x512.Idx → EReal := shapeCast S1024x512 v shapeCasts_S1x1x1x1024x512_S1024x512

theorem pay5_flat (x : Vec Ideal S1024x1024 .fp8e5m2) (w : Vec Ideal S1024x512 .fp8e5m2) : flat (k0_pay5 x w) = k0_pay40 x w := by
  unfold k0_pay5 flat; dsimp only; rw [cast_cast]; rfl

theorem pay41_flat (p : Vec Ideal S1024x512 .f32) (v : Vec Ideal S1x1x1x1024x512 .bf16) (j : S1024x512.Idx) :
    flat (k0_pay41 p v) j = flat v j + p j := by
  unfold k0_pay41 flat; dsimp only; rw [cast_cast]; rfl

theorem pay40_apply (x : Vec Ideal S1024x1024 .fp8e5m2) (w : Vec Ideal S1024x512 .fp8e5m2) (i : Fin 1024) (j : Fin 512) :
    (k0_pay40 x w (ix2 i j) : EReal) = ∑ l : Fin 1024, (x (ix2 i l) : EReal) * w (ix2 l j) := by
  refine (Ideal.matmul_plain_apply (M := 1024) (K := 1024) (N := 512) none x w (constant S1024x512 .f32 0x00000000#32) i j).trans ?_
  show Ideal.ofBits .f32 0x00000000#32 + _ = _
  rw [Ideal.ofBits_zero_f32, zero_add]

theorem pay109_flat (z : Ideal .f32) (p : Vec Ideal S1024x512 .f32) (v : Vec Ideal S1x1x1x1024x512 .bf16) (j : S1024x512.Idx) :
    (k0_pay109 z p v (Shape.reshapeEquiv squeezes_S1x1024x512_S1024x512.numel_eq j) : EReal)
      = ((flat v j + p j) * z) * Ideal.logistic ((flat v j + p j) * z) := by
  unfold k0_pay109
  rw [cast_at]
  rfl

/-! ## The operands -/

variable (m : (ℓ : Loc nD τ sig) → Buf (Elt Ideal) ℓ)

/-- A device's `x` and `w`, as matrices of extended reals. -/
abbrev xOf (c : Dev nD) : S4096x1024.Idx → EReal := m ((c : Thread nD τ).loc main_arg0)
abbrev wOf (c : Dev nD) : S1024x8192.Idx → EReal := m ((c : Thread nD τ).loc main_arg1)

/-- Row `i` of row chunk `k`, and column `j` of a tile. -/
def rowOf (k : Fin 4) (i : Fin 1024) : Fin 4096 := ⟨1024 * k.val + i.val, by omega⟩
def colOf (d : Fin 2) (u : Fin 8) (j : Fin 512) : Fin 8192 := ⟨col d u + j.val, by unfold col; omega⟩

theorem x8v_apply (c : Dev nD) (k : Fin 4) (i l : Fin 1024) : (x8v m c k (ix2 i l) : EReal) = xOf m c (ix2 (rowOf k i) l) := by
  unfold x8v k0_pay2; rw [cast_same]
  refine congrArg (xOf m c) (funext fun a => Fin.ext ?_)
  match a with
  | ⟨0, _⟩ => exact congrArg (1024 * k.val + ·) (Nat.one_mul _)
  | ⟨1, _⟩ => exact (Nat.zero_add _).trans (Nat.one_mul _)

theorem w8v_apply (c : Dev nD) (d : Fin 2) (u : Fin 8) (l : Fin 1024) (j : Fin 512) :
    (w8v m c d u (ix2 l j) : EReal) = wOf m c (ix2 l (colOf d u j)) := by
  unfold w8v k0_pay4; rw [cast_same]
  unfold wRaw
  refine congrArg (wOf m c) (?_ : (rCol d u).idx _ = _)
  rw [Shape.reshapeEquiv_symm, Shape.reshapeEquiv_reshapeEquiv, Shape.reshapeEquiv_self]
  refine funext fun a => Fin.ext ?_
  match a with
  | ⟨0, _⟩ => exact (Nat.zero_add _).trans (Nat.one_mul _)
  | ⟨1, _⟩ => exact congrArg (col d u + ·) (Nat.one_mul _)

/-- A device's part of an entry of the whole product. -/
def part (r : Fin 4096) (q : Fin 8192) (e : Fin 4) : EReal := ∑ l : Fin 1024, xOf m e (ix2 r l) * wOf m e (ix2 l q)

theorem prodv_apply (c : Dev nD) (k : Fin 4) (d : Fin 2) (u : Fin 8) (i : Fin 1024) (j : Fin 512) :
    (prodv m c k d u (ix2 i j) : EReal) = part m (rowOf k i) (colOf d u j) c := by
  unfold prodv part
  rw [pay40_apply]
  exact Finset.sum_congr rfl fun l _ => by rw [x8v_apply, w8v_apply]

/-! ## Around the ring -/

/-- The chunks of the three hops before a device's own are the device's. -/
theorem chunks_meet (d : Fin 2) (c : Dev nD) :
    chunkAt 2 d (ups d c) = c ∧ chunkAt 1 d (ups d (ups d c)) = c ∧ chunkAt 0 d (ups d (ups d (ups d c))) = c := by
  revert d c; decide

/-- The four devices around the ring are all of them. -/
theorem ring_sum (f : Fin 4 → EReal) (d : Fin 2) (c : Dev nD) :
    f (ups d (ups d (ups d c))) + f (ups d (ups d c)) + f (ups d c) + f c = ∑ e, f e := by
  have h : ∀ (d : Fin 2) (c : Fin 4), ∃ s : Fin 4 ≃ Fin 4, s 0 = ups d (ups d (ups d c)) ∧ s 1 = ups d (ups d c) ∧ s 2 = ups d c ∧ s 3 = c := by decide
  obtain ⟨s, h0, h1, h2, h3⟩ := h d c
  rw [← Equiv.sum_comp s, Fin.sum_univ_four, h0, h1, h2, h3]

theorem arrived_apply (c : Dev nD) (d : Fin 2) (u : Fin 8) (i : Fin 1024) (j : Fin 512) :
    flat (sumv m 2 (ups d c) d u) (ix2 i j) + (prodv m c c d u (ix2 i j) : EReal) = ∑ e, part m (rowOf c i) (colOf d u j) e := by
  obtain ⟨h2, h1, h0⟩ := chunks_meet d c
  show flat (sum2 m (ups d c) d u) (ix2 i j) + _ = _
  unfold sum2; rw [pay41_flat]
  unfold sum1; rw [pay41_flat]
  unfold sum0; rw [pay5_flat]
  rw [h2, h1, h0]
  have e := prodv_apply m (ups d (ups d (ups d c))) c d u i j
  unfold prodv at e
  rw [e, prodv_apply, prodv_apply, prodv_apply]
  exact ring_sum _ d c

/-! ## The activation -/

theorem one_add_exp_ne_zero (y : EReal) : 1 + Ideal.exp y ≠ 0 := by
  have h : 0 ≤ Ideal.exp y := by
    induction y with
    | bot => exact le_rfl
    | top => exact le_top
    | coe r => exact EReal.coe_nonneg.mpr (Real.exp_pos r).le
  exact (lt_of_lt_of_le zero_lt_one (le_add_of_nonneg_right h)).ne'

/-- `y * logistic y`, as a quotient. -/
theorem swish (y : EReal) : y * Ideal.logistic y = Ideal.div y (1 + Ideal.exp (-y)) := by
  unfold Ideal.logistic Ideal.div
  rw [if_neg (one_add_exp_ne_zero _), if_neg (one_add_exp_ne_zero _), one_mul]

/-- The activation of an entry of the product, scaled. -/
def act (a z : EReal) : EReal := Ideal.div (a * z) (1 + Ideal.exp (-(a * z)))

theorem outTile_apply (c : Dev nD) (d : Fin 2) (u : Fin 8) (i : Fin 1024) (j : Fin 512) :
    (outTile m c d u (ix2 i j) : EReal) = act (∑ e, part m (rowOf c i) (colOf d u j) e) ((sc0 m c : EReal) * sc1 m c) := by
  unfold outTile outv
  rw [pay109_flat, arrived_apply, swish]
  rfl

/-! ## The whole result of a device -/

/-- Every column lies in a tile. -/
theorem colOf_surj (q : Fin 8192) : ∃ (d : Fin 2) (u : Fin 8) (j : Fin 512), colOf d u j = q :=
  ⟨⟨q.val / 4096, by omega⟩, ⟨q.val % 4096 / 512, by omega⟩, ⟨q.val % 512, by omega⟩, Fin.ext (by unfold colOf col; dsimp only; omega)⟩

theorem read_out (f : S1024x8192.Idx → EReal) (d : Fin 2) (u : Fin 8) (i : Fin 1024) (j : Fin 512) :
    (oV d u).view.read (Elt Ideal) f (ix2 i j) = f (ix2 i (colOf d u j)) := by
  refine congrArg f (funext fun a => Fin.ext ?_)
  match a with
  | ⟨0, _⟩ => exact (Nat.zero_add _).trans (Nat.one_mul _)
  | ⟨1, _⟩ => exact congrArg (col d u + ·) (Nat.one_mul _)

/-- What a device's result ends at. -/
theorem result_apply (c : Dev nD) (f : S1024x8192.Idx → EReal) (h : ∀ d u, (oV d u).view.read (Elt Ideal) f = outTile m c d u)
    (i : Fin 1024) (q : Fin 8192) : f (ix2 i q) = act (∑ e, part m (rowOf c i) q e) ((sc0 m c : EReal) * sc1 m c) := by
  obtain ⟨d, u, j, rfl⟩ := colOf_surj q
  refine (read_out f d u i j).symm.trans ?_
  rw [h]
  exact outTile_apply m c d u i j

end Cert.KernelIdealProof

/-! ## The reference -/

namespace Cert.ReferenceIdealProof

open Cert.ReferenceIdeal Cert.ReferenceIdeal.Gen
open Idealize.ShloMosaic Idealize.ShloMosaic.TcCoe Idealize.ShloMosaic.ValueIdx
open Cert.KernelIdealProof (act rowOf)
open scoped BigOperators

variable (X : S4096x4096.Idx → EReal) (W : S4096x8192.Idx → EReal) (sx sw : S1.Idx → EReal)

/-- The reference's result. -/
def val : FVec Ideal S4096x8192 .bf16 :=
  truncf .bf16 (Host.divf (F := Ideal) (φ := .f32) (mulf (Host.dotGeneral (φ₁ := .f32) (φ₂ := .f32) dot_S4096x4096_S4096x8192_S4096x8192_1_0_0_1_n_n none X W) (broadcastInDim S4096x8192 ![0, 1] bcast_S1x1_S4096x8192_0_1 (broadcastInDim S1x1 ![1] bcast_S1_S1x1_1 (mulf (F := Ideal) (φ := .f32) sx sw)))) (addf (broadcastInDim S4096x8192 ![] bcast_S_S4096x8192 (constant S_ .f32 0x3F800000#32)) (Host.exp (Host.negf (mulf (Host.dotGeneral (φ₁ := .f32) (φ₂ := .f32) dot_S4096x4096_S4096x8192_S4096x8192_1_0_0_1_n_n none X W) (broadcastInDim S4096x8192 ![0, 1] bcast_S1x1_S4096x8192_0_1 (broadcastInDim S1x1 ![1] bcast_S1_S1x1_1 (mulf (F := Ideal) (φ := .f32) sx sw)))))))) bitsLt_bf16_f32

theorem val_apply (r : Fin 4096) (q : Fin 8192) (z : S1.Idx) :
    (val X W sx sw (ix2 r q) : EReal) = act (∑ k : Fin 4096, X (ix2 r k) * W (ix2 k q)) (sx z * sw z) := by
  have hz : ∀ i : S1.Idx, i = z := fun i => funext fun a => Fin.ext (by
    have h1 := (i a).isLt; have h2 := (z a).isLt
    match a with
    | ⟨0, _⟩ => exact (Nat.lt_one_iff.mp h1).trans (Nat.lt_one_iff.mp h2).symm)
  have hd := StackMember.dotGeneral_plain_apply (m := 4096) (n := 8192) (k := 4096) (φ₁ := .f32) (φ₂ := .f32) none X W r q
  have hb : broadcastInDim S4096x8192 ![0, 1] bcast_S1x1_S4096x8192_0_1 (broadcastInDim S1x1 ![1] bcast_S1_S1x1_1 (mulf (F := Ideal) (φ := .f32) sx sw)) (ix2 r q)
      = sx z * sw z := by
    show sx _ * sw _ = _
    exact congrArg₂ (fun a b : EReal => a * b) (congrArg sx (hz _)) (congrArg sw (hz _))
  unfold act
  rw [← hd, ← hb, ← Ideal.ofBits_one_f32]
  rfl

/-- A sum over the contracted axis, four blocks at a time. -/
theorem sum_blocks (f : Fin 4096 → EReal) : ∑ k, f k = ∑ e : Fin 4, ∑ l : Fin 1024, f (rowOf e l) := by
  rw [← Equiv.sum_comp (finProdFinEquiv (m := 4) (n := 1024)), Fintype.sum_prod_type]
  refine Finset.sum_congr rfl fun e _ => Finset.sum_congr rfl fun l _ => congrArg f (Fin.ext ?_)
  show l.val + 1024 * e.val = 1024 * e.val + l.val
  exact Nat.add_comm _ _

/-! ## The two results -/

open Cert.KernelIdealProof (xOf wOf part sc0 sc1 zero1 outTile oV result_apply)

/-- Where each device's `x` is its block of `X`'s columns and its `w` its block of `W`'s rows, the device's part of an entry
    is its block of the entry's sum. -/
theorem part_block (m : (ℓ : Loc Cert.KernelIdeal.nD Cert.KernelIdeal.τ Cert.KernelIdeal.sig) → Buf (Elt Ideal) ℓ) (e : Fin 4)
    (hx : xOf m e = Layout.block ⟨2, ![4096, 1024]⟩ ⟨2, ![4096, 4096]⟩ 1 4 e X) (hw : wOf m e = Layout.block ⟨2, ![1024, 8192]⟩ ⟨2, ![4096, 8192]⟩ 0 4 e W)
    (r : Fin 4096) (q : Fin 8192) : part m r q e = ∑ l : Fin 1024, X (ix2 r (rowOf e l)) * W (ix2 (rowOf e l) q) := by
  unfold part
  rw [hx, hw]
  refine Finset.sum_congr rfl fun l _ => congrArg₂ (fun a b : EReal => a * b) (congrArg X (funext fun a => Fin.ext ?_)) (congrArg W (funext fun a => Fin.ext ?_))
  · match a with
    | ⟨0, _⟩ => rfl
    | ⟨1, _⟩ => exact congrArg (· + l.val) (Nat.mul_comm _ _)
  · match a with
    | ⟨0, _⟩ => exact congrArg (· + l.val) (Nat.mul_comm _ _)
    | ⟨1, _⟩ => rfl

/-- A device's result is its block of the reference's. -/
theorem result_block (m : (ℓ : Loc Cert.KernelIdeal.nD Cert.KernelIdeal.τ Cert.KernelIdeal.sig) → Buf (Elt Ideal) ℓ) (c : Fin 4)
    (hx : ∀ e, xOf m e = Layout.block ⟨2, ![4096, 1024]⟩ ⟨2, ![4096, 4096]⟩ 1 4 e X) (hw : ∀ e, wOf m e = Layout.block ⟨2, ![1024, 8192]⟩ ⟨2, ![4096, 8192]⟩ 0 4 e W)
    (h0 : sc0 m c = sx zero1) (h1 : sc1 m c = sw zero1)
    (f : Cert.KernelIdeal.S1024x8192.Idx → EReal) (h : ∀ d u, (oV d u).view.read (Elt Ideal) f = outTile m c d u) :
    f = Layout.block ⟨2, ![1024, 8192]⟩ ⟨2, ![4096, 8192]⟩ 0 4 c (val X W sx sw : S4096x8192.Idx → EReal) := by
  funext i
  obtain ⟨r, q, rfl⟩ : ∃ r q, i = ix2 r q := ⟨_, _, eq_ix2 i⟩
  refine (result_apply m c f h r q).trans ?_
  rw [Layout.block_apply, show (Layout.Tiles.idx (S := ⟨2, ![1024, 8192]⟩) (T := ⟨2, ![4096, 8192]⟩) (a := 0) (k := 4) (by decide) c (ix2 r q)) = ix2 (rowOf c r) q from
    funext fun a => Fin.ext (by
      match a with
      | ⟨0, _⟩ => exact congrArg (· + r.val) (Nat.mul_comm _ _)
      | ⟨1, _⟩ => rfl), val_apply X W sx sw _ _ zero1, sum_blocks, h0, h1]
  exact congrArg (act · _) (Finset.sum_congr rfl fun e _ => part_block X W m e (hx e) (hw e) _ _)

end Cert.ReferenceIdealProof
-- ==== Proof.Clip.lean ====
/-
The reference with its exponent clipped to [-60, 60], where the clip changes nothing.
-/
module

public import proofs.«01_k».proof.Proof.Value
public import proofs.«01_k».proof.Proof.Gen.ClippedIdeal.Run
public import proofs.«01_k».proof.Proof.Gen.On_clip_idle

@[expose] public section

noncomputable section

namespace Cert.ClippedIdealProof

open Cert.ClippedIdeal Cert.ClippedIdeal.Gen
open Idealize.ShloMosaic Idealize.ShloMosaic.TcCoe

variable (X : S4096x4096.Idx → EReal) (W : S4096x8192.Idx → EReal) (sx sw : S1.Idx → EReal)

/-- The scaled product. -/
def scaled : FVec Ideal S4096x8192 .f32 :=
  mulf (Host.dotGeneral (φ₁ := .f32) (φ₂ := .f32) dot_S4096x4096_S4096x8192_S4096x8192_1_0_0_1_n_n none X W)
    (broadcastInDim S4096x8192 ![0, 1] bcast_S1x1_S4096x8192_0_1 (broadcastInDim S1x1 ![1] bcast_S1_S1x1_1 (mulf (F := Ideal) (φ := .f32) sx sw)))

/-- A word, as a whole array. -/
def splat (b : BitVec 32) : FVec Ideal S4096x8192 .f32 := broadcastInDim S4096x8192 ![] bcast_S_S4096x8192 (id (constant S_ .f32 b))

/-- The clipped reference's result. -/
def val : FVec Ideal S4096x8192 .bf16 :=
  truncf .bf16 (Host.divf (scaled X W sx sw)
    (addf (splat 0x3F800000#32) (Host.exp (Host.negf (minimumf (splat 0x42700000#32) (maximumf (splat 0xC2700000#32) (scaled X W sx sw))))))) bitsLt_bf16_f32

/-- Between two bounds, clipping to them is the identity. -/
theorem clip_id (lo hi y : EReal) (h : IntOp.andi (Ideal.cmp .oge y lo) (Ideal.cmp .ole y hi) = 1#1) : min hi (max lo y) = y := by
  have h1 : lo ≤ y := by
    by_contra hn
    simp [Ideal.cmp, IntOp.andi, hn] at h
  have h2 : y ≤ hi := by
    by_contra hn
    simp [Ideal.cmp, IntOp.andi, hn] at h
  rw [max_eq_right h1, min_eq_right h2]

/-- Where the scaled product lies in [-60, 60], the clipped reference is the other. -/
theorem val_eq (i : S4096x8192.Idx) (h : Cert.On_clip_idle.fn (F := Ideal) X W sx sw i = 1#1) :
    (val X W sx sw i : EReal) = Cert.ReferenceIdealProof.val X W sx sw i := by
  have e := clip_id (splat 0xC2700000#32 i) (splat 0x42700000#32 i) (scaled X W sx sw i) h
  show Ideal.div (scaled X W sx sw i) (Ideal.ofBits .f32 0x3F800000#32 + Ideal.exp (-(min (splat 0x42700000#32 i : EReal) (max (splat 0xC2700000#32 i) (scaled X W sx sw i))))) = _
  rw [e]
  rfl

end Cert.ClippedIdealProof
-- ==== Proof.lean ====
/-
The kernel's claims: every run of the kernel and of the reference ends, with its arguments unchanged and every
semaphore at zero, and over the extended reals each device's result is its block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.On_clip_idle
public import proofs.«01_k».proof.Proof.Kernel.Run
public import proofs.«01_k».proof.Proof.KernelIdeal.Run
public import proofs.«01_k».proof.Proof.Value
public import proofs.«01_k».proof.Proof.Clip
public import Idealize.ShloMosaic.Adequacy
public import Idealize.ShloMosaic.Init

@[expose] public section

noncomputable section

namespace Cert.Proof

open Idealize.ShloMosaic Idealize.SL.Sem

/-- The kernel's run on machine words: it ends, its arguments unchanged, its semaphores at zero. -/
theorem frame_kernel : Cert.quiescent_Kernel := fun m g _ =>
  (θ_run Cert.Kernel.defs _ _).mono (fun _ h => ⟨fun c => ⟨(h.1 c).1.1, (h.1 c).1.2.1, (h.1 c).2.1, (h.1 c).2.2⟩, h.2⟩)
    (Cert.KernelProof.run_main (F := Bits) m g)

/-- The same over the extended reals. -/
theorem frame_kernelIdeal : Cert.quiescent_KernelIdeal := fun m g _ =>
  (θ_run Cert.KernelIdeal.defs _ _).mono (fun _ h => ⟨fun c => ⟨(h.1 c).1.1, (h.1 c).1.2.1, (h.1 c).2.1, (h.1 c).2.2⟩, h.2⟩)
    (Cert.KernelIdealProof.run_main (F := Ideal) m g)

/-- The reference's run: it has no semaphores. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- Each device's result is its block of the reference's. -/
theorem algebraic : Cert.algebraic_KernelIdeal_ReferenceIdeal := by
  intro m g m' g' _ hagree
  refine ⟨Cert.ReferenceIdealProof.val (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun _ h c => ⟨?_, (h.1 c).1.1, (h.1 c).1.2.1, (h.1 c).2.1, (h.1 c).2.2⟩)
      (Cert.KernelIdealProof.run_main (F := Ideal) m g)
    exact Cert.ReferenceIdealProof.result_block _ _ _ _ m c (fun e => (hagree e).1) (fun e => (hagree e).2.1)
      (congrFun (hagree c).2.2.1 Cert.KernelIdealProof.zero1) (congrFun (hagree c).2.2.2 Cert.KernelIdealProof.zero1) _ (h.1 c).1.2.2
  · exact (θ_run Cert.ReferenceIdeal.defs _ _).mono (fun _ h => h 0) (Cert.ReferenceIdeal.Value.run (F := Ideal) m' g')

/-- The clipped reference's run. -/
theorem frame_clipped : Cert.quiescent_ClippedIdeal := fun m g _ =>
  (θ_run Cert.ClippedIdeal.defs _ _).mono
    (fun r h => ⟨fun c => (h c).2, Idealize.ShloMosaic.sem_eq_zero_of_no_sems (by decide) r.2⟩)
    (Cert.ClippedIdeal.Value.run (F := Ideal) m g)

/-- Where the clip changes nothing, each device's result is its block of the clipped reference's. -/
theorem algebraic_clipped : Cert.algebraic_KernelIdeal_ClippedIdeal_on_clip_idle := by
  intro m g m' g' _ hagree
  refine ⟨Cert.ClippedIdealProof.val (m' (((0 : Dev Cert.ClippedIdeal.nD).tc : Thread Cert.ClippedIdeal.nD Cert.ClippedIdeal.τ).loc Cert.ClippedIdeal.main_arg0))
    (m' (((0 : Dev Cert.ClippedIdeal.nD).tc : Thread Cert.ClippedIdeal.nD Cert.ClippedIdeal.τ).loc Cert.ClippedIdeal.main_arg1))
    (m' (((0 : Dev Cert.ClippedIdeal.nD).tc : Thread Cert.ClippedIdeal.nD Cert.ClippedIdeal.τ).loc Cert.ClippedIdeal.main_arg2))
    (m' (((0 : Dev Cert.ClippedIdeal.nD).tc : Thread Cert.ClippedIdeal.nD Cert.ClippedIdeal.τ).loc Cert.ClippedIdeal.main_arg3)), ?_, ?_⟩
  · refine (θ_run Cert.KernelIdeal.defs _ _).mono (fun _ h c => ⟨?_, (h.1 c).1.1, (h.1 c).1.2.1, (h.1 c).2.1, (h.1 c).2.2⟩)
      (Cert.KernelIdealProof.run_main (F := Ideal) m g)
    intro i hi
    refine (congrFun (Cert.ReferenceIdealProof.result_block (m' (((0 : Dev Cert.ClippedIdeal.nD).tc : Thread Cert.ClippedIdeal.nD Cert.ClippedIdeal.τ).loc Cert.ClippedIdeal.main_arg0))
      (m' (((0 : Dev Cert.ClippedIdeal.nD).tc : Thread Cert.ClippedIdeal.nD Cert.ClippedIdeal.τ).loc Cert.ClippedIdeal.main_arg1))
      (m' (((0 : Dev Cert.ClippedIdeal.nD).tc : Thread Cert.ClippedIdeal.nD Cert.ClippedIdeal.τ).loc Cert.ClippedIdeal.main_arg2))
      (m' (((0 : Dev Cert.ClippedIdeal.nD).tc : Thread Cert.ClippedIdeal.nD Cert.ClippedIdeal.τ).loc Cert.ClippedIdeal.main_arg3))
      m c (fun e => (hagree e).1) (fun e => (hagree e).2.1)
      (congrFun (hagree c).2.2.1 Cert.KernelIdealProof.zero1) (congrFun (hagree c).2.2.2 Cert.KernelIdealProof.zero1) _ (h.1 c).1.2.2) i).trans ?_
    exact (Cert.ClippedIdealProof.val_eq _ _ _ _ _ hi).symm
  · exact (θ_run Cert.ClippedIdeal.defs _ _).mono (fun _ h => ⟨fun i _ => congrFun (h 0).1 i, (h 0).2⟩)
      (Cert.ClippedIdeal.Value.run (F := Ideal) m' g')

theorem claim : Cert.Claim :=
  ⟨Cert.Kernel.Gen.facts, Cert.KernelIdeal.Gen.facts, Cert.ReferenceIdeal.Gen.facts, Cert.ClippedIdeal.Gen.facts, Cert.On_clip_idle.Gen.facts,
    frame_kernel, frame_kernelIdeal, frame_reference, frame_clipped, trivial, algebraic, algebraic_clipped⟩

end Cert.Proof

end
